-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale" .f32 0x3E0293EE#32 (((Real.log 2)⁻¹ * (Real.sqrt 128)⁻¹ : ℝ) : EReal)
  ∧ IdealRules.named_const.Statement Cert.KernelIdeal.κ "log2_max" .f32 0x410CEAED#32 (((Real.log 448) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x256 : Shape := ⟨3, ![32, 1, 256]⟩
abbrev S8x1x512 : Shape := ⟨3, ![8, 1, 512]⟩
abbrev S65536x2048 : Shape := ⟨2, ![65536, 2048]⟩
abbrev S65536x512 : Shape := ⟨2, ![65536, 512]⟩
abbrev S1024x32768 : Shape := ⟨2, ![1024, 32768]⟩
abbrev S2x8x512 : Shape := ⟨3, ![2, 8, 512]⟩
abbrev S1x1x256 : Shape := ⟨3, ![1, 1, 256]⟩
abbrev S1x1x512 : Shape := ⟨3, ![1, 1, 512]⟩
abbrev S256x128 : Shape := ⟨2, ![256, 128]⟩
abbrev S32768x128 : Shape := ⟨2, ![32768, 128]⟩
abbrev S128x32768 : Shape := ⟨2, ![128, 32768]⟩
abbrev S1x8x128 : Shape := ⟨3, ![1, 8, 128]⟩
abbrev S32768x256 : Shape := ⟨2, ![32768, 256]⟩
abbrev S8x256 : Shape := ⟨2, ![8, 256]⟩
abbrev S128x256 : Shape := ⟨2, ![128, 256]⟩
abbrev S1x1x1 : Shape := ⟨3, ![1, 1, 1]⟩
abbrev S1x128 : Shape := ⟨2, ![1, 128]⟩
abbrev S1x256 : Shape := ⟨2, ![1, 256]⟩
abbrev S1024x128 : Shape := ⟨2, ![1024, 128]⟩
abbrev S1024x256 : Shape := ⟨2, ![1024, 256]⟩
abbrev S64x256 : Shape := ⟨2, ![64, 256]⟩
abbrev S8x8x256 : Shape := ⟨3, ![8, 8, 256]⟩
abbrev S256x256 : Shape := ⟨2, ![256, 256]⟩
abbrev S256 : Shape := ⟨1, ![256]⟩
abbrev S32x8x256 : Shape := ⟨3, ![32, 8, 256]⟩
abbrev S1x1x128 : Shape := ⟨3, ![1, 1, 128]⟩

abbrev nBuf : Space → Nat
  | .hbm => 7
  | .vmem => 14
  | .smem => 4
  | _ => 0

abbrev bufTy : (tb : Table) → Fin (tcTables nBuf tb) → BufTy
  | .hbm, ⟨0, _⟩ => ⟨S32x1x256, .f32⟩
  | .hbm, ⟨1, _⟩ => ⟨S8x1x512, .f32⟩
  | .hbm, ⟨2, _⟩ => ⟨S65536x2048, .fp8e4m3⟩
  | .hbm, ⟨3, _⟩ => ⟨S65536x512, .fp8e4m3⟩
  | .hbm, ⟨4, _⟩ => ⟨S1024x32768, .fp8e4m3⟩
  | .hbm, ⟨5, _⟩ => ⟨S2x8x512, .f32⟩
  | .hbm, ⟨6, _⟩ => ⟨S65536x2048, .bf16⟩
  | .local _ .vmem, ⟨0, _⟩ => ⟨S256x128, .fp8e4m3⟩
  | .local _ .vmem, ⟨1, _⟩ => ⟨S256x128, .fp8e4m3⟩
  | .local _ .vmem, ⟨2, _⟩ => ⟨S32768x128, .fp8e4m3⟩
  | .local _ .vmem, ⟨3, _⟩ => ⟨S32768x128, .fp8e4m3⟩
  | .local _ .vmem, ⟨4, _⟩ => ⟨S128x32768, .fp8e4m3⟩
  | .local _ .vmem, ⟨5, _⟩ => ⟨S128x32768, .fp8e4m3⟩
  | .local _ .vmem, ⟨6, _⟩ => ⟨S1x8x128, .f32⟩
  | .local _ .vmem, ⟨7, _⟩ => ⟨S1x8x128, .f32⟩
  | .local _ .vmem, ⟨8, _⟩ => ⟨S256x128, .bf16⟩
  | .local _ .vmem, ⟨9, _⟩ => ⟨S256x128, .bf16⟩
  | .local _ .vmem, ⟨10, _⟩ => ⟨S32768x256, .f32⟩
  | .local _ .vmem, ⟨11, _⟩ => ⟨S8x256, .f32⟩
  | .local _ .vmem, ⟨12, _⟩ => ⟨S8x256, .f32⟩
  | .local _ .vmem, ⟨13, _⟩ => ⟨S128x256, .f32⟩
  | .local _ .smem, ⟨0, _⟩ => ⟨S1x1x256, .f32⟩
  | .local _ .smem, ⟨1, _⟩ => ⟨S1x1x256, .f32⟩
  | .local _ .smem, ⟨2, _⟩ => ⟨S1x1x512, .f32⟩
  | .local _ .smem, ⟨3, _⟩ => ⟨S1x1x512, .f32⟩
  | _, _ => ⟨S32x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 4, 4, 128], ![false, false, false, false]⟩

def k0_off1 (i : grid0.Coords) (c0_i32_4 : BitVec 32) : Fin 3 → Nat :=
  let c0 : Index := 0#32
  let c0_5 : Index := 0#32
  let arg3 : BitVec 32 := BitVec.ofNat 32 (i 3).val
  let c2_i32 : BitVec 32 := 2#32
  let v17 : BitVec 32 := Scalar.muli arg3 c2_i32
  let v18 : BitVec 32 := Scalar.addi v17 c0_i32_4
  let v19 : Index := Scalar.indexCast v18
  ![0, 0, v19.toNat]
@[reducible] def k0_t1_loop (i : grid0.Coords) : Scf.Loop 32 :=
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_23 : BitVec 32 := 1#32
  ⟨c0_i32_21, v46, c1_i32_23⟩
def k0_mult1 (i : grid0.Coords) (k0_t1 : Fin (k0_t1_loop i).trips) : BitVec 32 :=
  let c0_i32_21 : BitVec 32 := 0#32
  let c1_i32_23 : BitVec 32 := 1#32
  let arg15 : BitVec 32 := Scf.iv c0_i32_21 c1_i32_23 k0_t1
  let c1024_i32 : BitVec 32 := 1024#32
  let v253 : BitVec 32 := Scalar.muli arg15 c1024_i32
  v253
def k0_off2 (i : grid0.Coords) (k0_t1 : Fin (k0_t1_loop i).trips) : Fin 2 → Nat :=
  let c0_i32_21 : BitVec 32 := 0#32
  let c1_i32_23 : BitVec 32 := 1#32
  let arg15 : BitVec 32 := Scf.iv c0_i32_21 c1_i32_23 k0_t1
  let c1024_i32 : BitVec 32 := 1024#32
  let v253 : BitVec 32 := Scalar.muli arg15 c1024_i32
  let v254 : BitVec 32 := v253
  let v255 : Index := Scalar.indexCast v254
  let c0_119 : Index := 0#32
  ![v255.toNat, 0]
def k0_off3 (i : grid0.Coords) (k0_t1 : Fin (k0_t1_loop i).trips) (c0_i32_132 : BitVec 32) : Fin 3 → Nat :=
  let c0_133 : Index := 0#32
  let c0_134 : Index := 0#32
  let c0_i32_21 : BitVec 32 := 0#32
  let c1_i32_23 : BitVec 32 := 1#32
  let arg15 : BitVec 32 := Scf.iv c0_i32_21 c1_i32_23 k0_t1
  let c1024_i32 : BitVec 32 := 1024#32
  let v253 : BitVec 32 := Scalar.muli arg15 c1024_i32
  let v254 : BitVec 32 := v253
  let c0_i32_126 : BitVec 32 := 0#32
  let v261 : BitVec 1 := Scalar.cmpi .sgt v254 c0_i32_126
  let v262 : BitVec 32 := Scalar.extui v261
  let c0_i32_127 : BitVec 32 := 0#32
  let v263 : BitVec 1 := Scalar.cmpi .slt v254 c0_i32_127
  let v264 : BitVec 32 := Scalar.extui v263
  let v265 : BitVec 32 := Scalar.subi v262 v264
  let c64_i32_125 : BitVec 32 := 64#32
  let c0_i32_128 : BitVec 32 := 0#32
  let v266 : BitVec 1 := Scalar.cmpi .sgt c64_i32_125 c0_i32_128
  let v267 : BitVec 32 := Scalar.extui v266
  let c0_i32_129 : BitVec 32 := 0#32
  let v268 : BitVec 1 := Scalar.cmpi .slt c64_i32_125 c0_i32_129
  let v269 : BitVec 32 := Scalar.extui v268
  let v270 : BitVec 32 := Scalar.subi v267 v269
  let v271 : BitVec 1 := Scalar.cmpi .ne v265 v270
  let v272 : BitVec 32 := Scalar.remsi v254 c64_i32_125
  let c0_i32_130 : BitVec 32 := 0#32
  let v273 : BitVec 1 := Scalar.cmpi .ne v272 c0_i32_130
  let v274 : BitVec 1 := Scalar.andi v271 v273
  let v260 : BitVec 32 := Scalar.divsi v254 c64_i32_125
  let c1_i32_131 : BitVec 32 := 1#32
  let v275 : BitVec 32 := Scalar.subi v260 c1_i32_131
  let v276 : BitVec 32 := Scalar.select v274 v275 v260
  let v277 : BitVec 32 := Scalar.addi v276 c0_i32_132
  let v278 : Index := Scalar.indexCast v277
  ![0, 0, v278.toNat]
def k0_off4 (i : grid0.Coords) (k0_t1 : Fin (k0_t1_loop i).trips) (c0_i32_135 : BitVec 32) : Fin 2 → Nat :=
  let c0_i32_21 : BitVec 32 := 0#32
  let c1_i32_23 : BitVec 32 := 1#32
  let arg15 : BitVec 32 := Scf.iv c0_i32_21 c1_i32_23 k0_t1
  let c1024_i32 : BitVec 32 := 1024#32
  let v253 : BitVec 32 := Scalar.muli arg15 c1024_i32
  let v254 : BitVec 32 := v253
  let v285 : BitVec 32 := Scalar.addi v254 c0_i32_135
  let v286 : Index := Scalar.indexCast v285
  let c0_136 : Index := 0#32
  ![v286.toNat, 0]
@[reducible] def k0_t2_loop (i : grid0.Coords) : Scf.Loop 32 :=
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let v43 : BitVec 32 := Scalar.addi c0_i32_21 v42
  let c1_i32_24 : BitVec 32 := 1#32
  ⟨v46, v43, c1_i32_24⟩
def k0_mult2 (i : grid0.Coords) (k0_t2 : Fin (k0_t2_loop i).trips) : BitVec 32 :=
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg15 : BitVec 32 := Scf.iv v46 c1_i32_24 k0_t2
  let c1024_i32 : BitVec 32 := 1024#32
  let v253 : BitVec 32 := Scalar.muli arg15 c1024_i32
  v253
def k0_off5 (i : grid0.Coords) (k0_t2 : Fin (k0_t2_loop i).trips) : Fin 2 → Nat :=
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg15 : BitVec 32 := Scf.iv v46 c1_i32_24 k0_t2
  let c1024_i32 : BitVec 32 := 1024#32
  let v253 : BitVec 32 := Scalar.muli arg15 c1024_i32
  let v254 : BitVec 32 := v253
  let v255 : Index := Scalar.indexCast v254
  let c0_119 : Index := 0#32
  ![v255.toNat, 0]
def k0_off6 (i : grid0.Coords) (k0_t2 : Fin (k0_t2_loop i).trips) (c0_i32_132 : BitVec 32) : Fin 3 → Nat :=
  let c0_133 : Index := 0#32
  let c0_134 : Index := 0#32
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg15 : BitVec 32 := Scf.iv v46 c1_i32_24 k0_t2
  let c1024_i32 : BitVec 32 := 1024#32
  let v253 : BitVec 32 := Scalar.muli arg15 c1024_i32
  let v254 : BitVec 32 := v253
  let c0_i32_126 : BitVec 32 := 0#32
  let v261 : BitVec 1 := Scalar.cmpi .sgt v254 c0_i32_126
  let v262 : BitVec 32 := Scalar.extui v261
  let c0_i32_127 : BitVec 32 := 0#32
  let v263 : BitVec 1 := Scalar.cmpi .slt v254 c0_i32_127
  let v264 : BitVec 32 := Scalar.extui v263
  let v265 : BitVec 32 := Scalar.subi v262 v264
  let c64_i32_125 : BitVec 32 := 64#32
  let c0_i32_128 : BitVec 32 := 0#32
  let v266 : BitVec 1 := Scalar.cmpi .sgt c64_i32_125 c0_i32_128
  let v267 : BitVec 32 := Scalar.extui v266
  let c0_i32_129 : BitVec 32 := 0#32
  let v268 : BitVec 1 := Scalar.cmpi .slt c64_i32_125 c0_i32_129
  let v269 : BitVec 32 := Scalar.extui v268
  let v270 : BitVec 32 := Scalar.subi v267 v269
  let v271 : BitVec 1 := Scalar.cmpi .ne v265 v270
  let v272 : BitVec 32 := Scalar.remsi v254 c64_i32_125
  let c0_i32_130 : BitVec 32 := 0#32
  let v273 : BitVec 1 := Scalar.cmpi .ne v272 c0_i32_130
  let v274 : BitVec 1 := Scalar.andi v271 v273
  let v260 : BitVec 32 := Scalar.divsi v254 c64_i32_125
  let c1_i32_131 : BitVec 32 := 1#32
  let v275 : BitVec 32 := Scalar.subi v260 c1_i32_131
  let v276 : BitVec 32 := Scalar.select v274 v275 v260
  let v277 : BitVec 32 := Scalar.addi v276 c0_i32_132
  let v278 : Index := Scalar.indexCast v277
  ![0, 0, v278.toNat]
def k0_off7 (i : grid0.Coords) (k0_t2 : Fin (k0_t2_loop i).trips) (c0_i32_135 : BitVec 32) : Fin 2 → Nat :=
  let c0_i32_21 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v42 : BitVec 32 := Scalar.subi v16 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg15 : BitVec 32 := Scf.iv v46 c1_i32_24 k0_t2
  let c1024_i32 : BitVec 32 := 1024#32
  let v253 : BitVec 32 := Scalar.muli arg15 c1024_i32
  let v254 : BitVec 32 := v253
  let v285 : BitVec 32 := Scalar.addi v254 c0_i32_135
  let v286 : Index := Scalar.indexCast v285
  let c0_136 : Index := 0#32
  ![v286.toNat, 0]
@[reducible] def k0_t3_loop (i : grid0.Coords) : Scf.Loop 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let c1_i32_28 : BitVec 32 := 1#32
  ⟨v47, v52, c1_i32_28⟩
def k0_mult3 (i : grid0.Coords) (k0_t3 : Fin (k0_t3_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let c1_i32_28 : BitVec 32 := 1#32
  let arg15 : BitVec 32 := Scf.iv v47 c1_i32_28 k0_t3
  let c256_i32_119 : BitVec 32 := 256#32
  let v253 : BitVec 32 := Scalar.muli arg15 c256_i32_119
  v253
def k0_off8 (i : grid0.Coords) (k0_t3 : Fin (k0_t3_loop i).trips) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let c1_i32_28 : BitVec 32 := 1#32
  let arg15 : BitVec 32 := Scf.iv v47 c1_i32_28 k0_t3
  let c256_i32_119 : BitVec 32 := 256#32
  let v253 : BitVec 32 := Scalar.muli arg15 c256_i32_119
  let v254 : BitVec 32 := v253
  let v255 : Index := Scalar.indexCast v254
  let c0_120 : Index := 0#32
  ![v255.toNat, 0]
def k0_off9 (i : grid0.Coords) (k0_t3 : Fin (k0_t3_loop i).trips) (c0_i32_133 : BitVec 32) : Fin 3 → Nat :=
  let c0_134 : Index := 0#32
  let c0_135 : Index := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let c1_i32_28 : BitVec 32 := 1#32
  let arg15 : BitVec 32 := Scf.iv v47 c1_i32_28 k0_t3
  let c256_i32_119 : BitVec 32 := 256#32
  let v253 : BitVec 32 := Scalar.muli arg15 c256_i32_119
  let v254 : BitVec 32 := v253
  let c0_i32_127 : BitVec 32 := 0#32
  let v261 : BitVec 1 := Scalar.cmpi .sgt v254 c0_i32_127
  let v262 : BitVec 32 := Scalar.extui v261
  let c0_i32_128 : BitVec 32 := 0#32
  let v263 : BitVec 1 := Scalar.cmpi .slt v254 c0_i32_128
  let v264 : BitVec 32 := Scalar.extui v263
  let v265 : BitVec 32 := Scalar.subi v262 v264
  let c64_i32_126 : BitVec 32 := 64#32
  let c0_i32_129 : BitVec 32 := 0#32
  let v266 : BitVec 1 := Scalar.cmpi .sgt c64_i32_126 c0_i32_129
  let v267 : BitVec 32 := Scalar.extui v266
  let c0_i32_130 : BitVec 32 := 0#32
  let v268 : BitVec 1 := Scalar.cmpi .slt c64_i32_126 c0_i32_130
  let v269 : BitVec 32 := Scalar.extui v268
  let v270 : BitVec 32 := Scalar.subi v267 v269
  let v271 : BitVec 1 := Scalar.cmpi .ne v265 v270
  let v272 : BitVec 32 := Scalar.remsi v254 c64_i32_126
  let c0_i32_131 : BitVec 32 := 0#32
  let v273 : BitVec 1 := Scalar.cmpi .ne v272 c0_i32_131
  let v274 : BitVec 1 := Scalar.andi v271 v273
  let v260 : BitVec 32 := Scalar.divsi v254 c64_i32_126
  let c1_i32_132 : BitVec 32 := 1#32
  let v275 : BitVec 32 := Scalar.subi v260 c1_i32_132
  let v276 : BitVec 32 := Scalar.select v274 v275 v260
  let v277 : BitVec 32 := Scalar.addi v276 c0_i32_133
  let v278 : Index := Scalar.indexCast v277
  ![0, 0, v278.toNat]
def k0_off10 (i : grid0.Coords) (k0_t3 : Fin (k0_t3_loop i).trips) (c0_i32_136 : BitVec 32) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let c1_i32_28 : BitVec 32 := 1#32
  let arg15 : BitVec 32 := Scf.iv v47 c1_i32_28 k0_t3
  let c256_i32_119 : BitVec 32 := 256#32
  let v253 : BitVec 32 := Scalar.muli arg15 c256_i32_119
  let v254 : BitVec 32 := v253
  let v285 : BitVec 32 := Scalar.addi v254 c0_i32_136
  let v286 : Index := Scalar.indexCast v285
  let c0_137 : Index := 0#32
  ![v286.toNat, 0]
@[reducible] def k0_t4_loop (i : grid0.Coords) : Scf.Loop 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let v49 : BitVec 32 := Scalar.addi v47 v48
  let c1_i32_29 : BitVec 32 := 1#32
  ⟨v52, v49, c1_i32_29⟩
def k0_mult4 (i : grid0.Coords) (k0_t4 : Fin (k0_t4_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let c1_i32_29 : BitVec 32 := 1#32
  let arg15 : BitVec 32 := Scf.iv v52 c1_i32_29 k0_t4
  let c256_i32_119 : BitVec 32 := 256#32
  let v253 : BitVec 32 := Scalar.muli arg15 c256_i32_119
  v253
def k0_off11 (i : grid0.Coords) (k0_t4 : Fin (k0_t4_loop i).trips) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let c1_i32_29 : BitVec 32 := 1#32
  let arg15 : BitVec 32 := Scf.iv v52 c1_i32_29 k0_t4
  let c256_i32_119 : BitVec 32 := 256#32
  let v253 : BitVec 32 := Scalar.muli arg15 c256_i32_119
  let v254 : BitVec 32 := v253
  let v255 : Index := Scalar.indexCast v254
  let c0_120 : Index := 0#32
  ![v255.toNat, 0]
def k0_off12 (i : grid0.Coords) (k0_t4 : Fin (k0_t4_loop i).trips) (c0_i32_133 : BitVec 32) : Fin 3 → Nat :=
  let c0_134 : Index := 0#32
  let c0_135 : Index := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let c1_i32_29 : BitVec 32 := 1#32
  let arg15 : BitVec 32 := Scf.iv v52 c1_i32_29 k0_t4
  let c256_i32_119 : BitVec 32 := 256#32
  let v253 : BitVec 32 := Scalar.muli arg15 c256_i32_119
  let v254 : BitVec 32 := v253
  let c0_i32_127 : BitVec 32 := 0#32
  let v261 : BitVec 1 := Scalar.cmpi .sgt v254 c0_i32_127
  let v262 : BitVec 32 := Scalar.extui v261
  let c0_i32_128 : BitVec 32 := 0#32
  let v263 : BitVec 1 := Scalar.cmpi .slt v254 c0_i32_128
  let v264 : BitVec 32 := Scalar.extui v263
  let v265 : BitVec 32 := Scalar.subi v262 v264
  let c64_i32_126 : BitVec 32 := 64#32
  let c0_i32_129 : BitVec 32 := 0#32
  let v266 : BitVec 1 := Scalar.cmpi .sgt c64_i32_126 c0_i32_129
  let v267 : BitVec 32 := Scalar.extui v266
  let c0_i32_130 : BitVec 32 := 0#32
  let v268 : BitVec 1 := Scalar.cmpi .slt c64_i32_126 c0_i32_130
  let v269 : BitVec 32 := Scalar.extui v268
  let v270 : BitVec 32 := Scalar.subi v267 v269
  let v271 : BitVec 1 := Scalar.cmpi .ne v265 v270
  let v272 : BitVec 32 := Scalar.remsi v254 c64_i32_126
  let c0_i32_131 : BitVec 32 := 0#32
  let v273 : BitVec 1 := Scalar.cmpi .ne v272 c0_i32_131
  let v274 : BitVec 1 := Scalar.andi v271 v273
  let v260 : BitVec 32 := Scalar.divsi v254 c64_i32_126
  let c1_i32_132 : BitVec 32 := 1#32
  let v275 : BitVec 32 := Scalar.subi v260 c1_i32_132
  let v276 : BitVec 32 := Scalar.select v274 v275 v260
  let v277 : BitVec 32 := Scalar.addi v276 c0_i32_133
  let v278 : Index := Scalar.indexCast v277
  ![0, 0, v278.toNat]
def k0_off13 (i : grid0.Coords) (k0_t4 : Fin (k0_t4_loop i).trips) (c0_i32_136 : BitVec 32) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_25 : BitVec 32 := 4#32
  let v47 : BitVec 32 := Scalar.muli v16 c4_i32_25
  let v48 : BitVec 32 := Scalar.subi arg3 v47
  let c1_i32_27 : BitVec 32 := 1#32
  let v50 : BitVec 32 := Scalar.divsi v48 c1_i32_27
  let v51 : BitVec 32 := Scalar.muli v50 c1_i32_27
  let v52 : BitVec 32 := Scalar.addi v47 v51
  let c1_i32_29 : BitVec 32 := 1#32
  let arg15 : BitVec 32 := Scf.iv v52 c1_i32_29 k0_t4
  let c256_i32_119 : BitVec 32 := 256#32
  let v253 : BitVec 32 := Scalar.muli arg15 c256_i32_119
  let v254 : BitVec 32 := v253
  let v285 : BitVec 32 := Scalar.addi v254 c0_i32_136
  let v286 : Index := Scalar.indexCast v285
  let c0_137 : Index := 0#32
  ![v286.toNat, 0]
def k0_mult5 (i : grid0.Coords) : BitVec 32 :=
  let arg3 : BitVec 32 := BitVec.ofNat 32 (i 3).val
  let c256_i32 : BitVec 32 := 256#32
  let v53 : BitVec 32 := Scalar.muli arg3 c256_i32
  v53
def k0_off14 (i : grid0.Coords) : Fin 2 → Nat :=
  let arg3 : BitVec 32 := BitVec.ofNat 32 (i 3).val
  let c256_i32 : BitVec 32 := 256#32
  let v53 : BitVec 32 := Scalar.muli arg3 c256_i32
  let v54 : BitVec 32 := v53
  let v55 : Index := Scalar.indexCast v54
  let c0_30 : Index := 0#32
  ![v55.toNat, 0]
def k0_off15 (i : grid0.Coords) (c0_i32_42 : BitVec 32) : Fin 3 → Nat :=
  let c0_43 : Index := 0#32
  let c0_44 : Index := 0#32
  let arg3 : BitVec 32 := BitVec.ofNat 32 (i 3).val
  let c256_i32 : BitVec 32 := 256#32
  let v53 : BitVec 32 := Scalar.muli arg3 c256_i32
  let v54 : BitVec 32 := v53
  let c0_i32_36 : BitVec 32 := 0#32
  let v61 : BitVec 1 := Scalar.cmpi .sgt v54 c0_i32_36
  let v62 : BitVec 32 := Scalar.extui v61
  let c0_i32_37 : BitVec 32 := 0#32
  let v63 : BitVec 1 := Scalar.cmpi .slt v54 c0_i32_37
  let v64 : BitVec 32 := Scalar.extui v63
  let v65 : BitVec 32 := Scalar.subi v62 v64
  let c64_i32 : BitVec 32 := 64#32
  let c0_i32_38 : BitVec 32 := 0#32
  let v66 : BitVec 1 := Scalar.cmpi .sgt c64_i32 c0_i32_38
  let v67 : BitVec 32 := Scalar.extui v66
  let c0_i32_39 : BitVec 32 := 0#32
  let v68 : BitVec 1 := Scalar.cmpi .slt c64_i32 c0_i32_39
  let v69 : BitVec 32 := Scalar.extui v68
  let v70 : BitVec 32 := Scalar.subi v67 v69
  let v71 : BitVec 1 := Scalar.cmpi .ne v65 v70
  let v72 : BitVec 32 := Scalar.remsi v54 c64_i32
  let c0_i32_40 : BitVec 32 := 0#32
  let v73 : BitVec 1 := Scalar.cmpi .ne v72 c0_i32_40
  let v74 : BitVec 1 := Scalar.andi v71 v73
  let v60 : BitVec 32 := Scalar.divsi v54 c64_i32
  let c1_i32_41 : BitVec 32 := 1#32
  let v75 : BitVec 32 := Scalar.subi v60 c1_i32_41
  let v76 : BitVec 32 := Scalar.select v74 v75 v60
  let v77 : BitVec 32 := Scalar.addi v76 c0_i32_42
  let v78 : Index := Scalar.indexCast v77
  ![0, 0, v78.toNat]
def k0_off16 (i : grid0.Coords) (c0_i32_47 : BitVec 32) : Fin 2 → Nat :=
  let arg3 : BitVec 32 := BitVec.ofNat 32 (i 3).val
  let c256_i32 : BitVec 32 := 256#32
  let v53 : BitVec 32 := Scalar.muli arg3 c256_i32
  let v54 : BitVec 32 := v53
  let v92 : BitVec 32 := Scalar.addi v54 c0_i32_47
  let v93 : Index := Scalar.indexCast v92
  let c0_48 : Index := 0#32
  ![v93.toNat, 0]
@[reducible] def k0_t5_loop (i : grid0.Coords) : Scf.Loop 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_101 : BitVec 32 := 1#32
  ⟨c0_i32_99, v232, c1_i32_101⟩
def k0_mult6 (i : grid0.Coords) (k0_t5 : Fin (k0_t5_loop i).trips) : BitVec 32 :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  v253
def k0_mult7 (i : grid0.Coords) (k0_t5 : Fin (k0_t5_loop i).trips) : BitVec 32 :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let c0_i32_121 : BitVec 32 := 0#32
  let v256 : BitVec 32 := Scalar.addi v254 c0_i32_121
  v256
def k0_off17 (i : grid0.Coords) (k0_t5 : Fin (k0_t5_loop i).trips) (c0_i32_121 : BitVec 32) : Fin 2 → Nat :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let v256 : BitVec 32 := Scalar.addi v254 c0_i32_121
  let v257 : BitVec 32 := v256
  let v258 : Index := Scalar.indexCast v257
  let c0_122 : Index := 0#32
  ![v258.toNat, 0]
def k0_off18 (i : grid0.Coords) (k0_t5 : Fin (k0_t5_loop i).trips) (c0_i32_121 : BitVec 32) : Fin 2 → Nat :=
  let c0_125 : Index := 0#32
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let v256 : BitVec 32 := Scalar.addi v254 c0_i32_121
  let v257 : BitVec 32 := v256
  let v269 : Index := Scalar.indexCast v257
  ![0, v269.toNat]
def k0_mult8 (i : grid0.Coords) (k0_t5 : Fin (k0_t5_loop i).trips) : BitVec 32 :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let c256_i32_127 : BitVec 32 := 256#32
  let v272 : BitVec 32 := Scalar.addi v254 c256_i32_127
  v272
def k0_mult9 (i : grid0.Coords) (k0_t5 : Fin (k0_t5_loop i).trips) : BitVec 32 :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let c512_i32 : BitVec 32 := 512#32
  let v289 : BitVec 32 := Scalar.addi v254 c512_i32
  v289
def k0_mult10 (i : grid0.Coords) (k0_t5 : Fin (k0_t5_loop i).trips) : BitVec 32 :=
  let c0_i32_99 : BitVec 32 := 0#32
  let c1_i32_101 : BitVec 32 := 1#32
  let arg15 : BitVec 32 := Scf.iv c0_i32_99 c1_i32_101 k0_t5
  let c1024_i32 : BitVec 32 := 1024#32
  let v253 : BitVec 32 := Scalar.muli arg15 c1024_i32
  let v254 : BitVec 32 := v253
  let c768_i32 : BitVec 32 := 768#32
  let v306 : BitVec 32 := Scalar.addi v254 c768_i32
  v306
@[reducible] def k0_t6_loop (i : grid0.Coords) : Scf.Loop 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let v229 : BitVec 32 := Scalar.addi c0_i32_99 v228
  let c1_i32_102 : BitVec 32 := 1#32
  ⟨v232, v229, c1_i32_102⟩
def k0_mult11 (i : grid0.Coords) (k0_t6 : Fin (k0_t6_loop i).trips) : BitVec 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  v253
def k0_mult12 (i : grid0.Coords) (k0_t6 : Fin (k0_t6_loop i).trips) : BitVec 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let c0_i32_121 : BitVec 32 := 0#32
  let v256 : BitVec 32 := Scalar.addi v254 c0_i32_121
  v256
def k0_off19 (i : grid0.Coords) (k0_t6 : Fin (k0_t6_loop i).trips) (c0_i32_121 : BitVec 32) : Fin 2 → Nat :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let v256 : BitVec 32 := Scalar.addi v254 c0_i32_121
  let v257 : BitVec 32 := v256
  let v258 : Index := Scalar.indexCast v257
  let c0_122 : Index := 0#32
  ![v258.toNat, 0]
def k0_off20 (i : grid0.Coords) (k0_t6 : Fin (k0_t6_loop i).trips) (c0_i32_121 : BitVec 32) : Fin 2 → Nat :=
  let c0_125 : Index := 0#32
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let v256 : BitVec 32 := Scalar.addi v254 c0_i32_121
  let v257 : BitVec 32 := v256
  let v269 : Index := Scalar.indexCast v257
  ![0, v269.toNat]
def k0_mult13 (i : grid0.Coords) (k0_t6 : Fin (k0_t6_loop i).trips) : BitVec 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let c256_i32_127 : BitVec 32 := 256#32
  let v272 : BitVec 32 := Scalar.addi v254 c256_i32_127
  v272
def k0_mult14 (i : grid0.Coords) (k0_t6 : Fin (k0_t6_loop i).trips) : BitVec 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let c512_i32 : BitVec 32 := 512#32
  let v289 : BitVec 32 := Scalar.addi v254 c512_i32
  v289
def k0_mult15 (i : grid0.Coords) (k0_t6 : Fin (k0_t6_loop i).trips) : BitVec 32 :=
  let c0_i32_99 : BitVec 32 := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let v228 : BitVec 32 := Scalar.subi v16 c0_i32_99
  let c1_i32_100 : BitVec 32 := 1#32
  let v230 : BitVec 32 := Scalar.divsi v228 c1_i32_100
  let v231 : BitVec 32 := Scalar.muli v230 c1_i32_100
  let v232 : BitVec 32 := Scalar.addi c0_i32_99 v231
  let c1_i32_102 : BitVec 32 := 1#32
  let arg15 : BitVec 32 := Scf.iv v232 c1_i32_102 k0_t6
  let c1024_i32 : BitVec 32 := 1024#32
  let v253 : BitVec 32 := Scalar.muli arg15 c1024_i32
  let v254 : BitVec 32 := v253
  let c768_i32 : BitVec 32 := 768#32
  let v306 : BitVec 32 := Scalar.addi v254 c768_i32
  v306
@[reducible] def k0_t7_loop (i : grid0.Coords) : Scf.Loop 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let c1_i32_107 : BitVec 32 := 1#32
  ⟨v233, v239, c1_i32_107⟩
def k0_mult16 (i : grid0.Coords) (k0_t7 : Fin (k0_t7_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_107 : BitVec 32 := 1#32
  let arg15 : BitVec 32 := Scf.iv v233 c1_i32_107 k0_t7
  let c256_i32_119 : BitVec 32 := 256#32
  let v253 : BitVec 32 := Scalar.muli arg15 c256_i32_119
  v253
def k0_mult17 (i : grid0.Coords) (k0_t7 : Fin (k0_t7_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_107 : BitVec 32 := 1#32
  let arg15 : BitVec 32 := Scf.iv v233 c1_i32_107 k0_t7
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  v256
def k0_off21 (i : grid0.Coords) (k0_t7 : Fin (k0_t7_loop i).trips) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_107 : BitVec 32 := 1#32
  let arg15 : BitVec 32 := Scf.iv v233 c1_i32_107 k0_t7
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  let v257 : BitVec 32 := v256
  let v258 : Index := Scalar.indexCast v257
  let c0_123 : Index := 0#32
  ![v258.toNat, 0]
def k0_off22 (i : grid0.Coords) (k0_t7 : Fin (k0_t7_loop i).trips) : Fin 2 → Nat :=
  let c0_126 : Index := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_107 : BitVec 32 := 1#32
  let arg15 : BitVec 32 := Scf.iv v233 c1_i32_107 k0_t7
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  let v257 : BitVec 32 := v256
  let v269 : Index := Scalar.indexCast v257
  ![0, v269.toNat]
@[reducible] def k0_t8_loop (i : grid0.Coords) : Scf.Loop 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let v236 : BitVec 32 := Scalar.addi v233 v235
  let c1_i32_108 : BitVec 32 := 1#32
  ⟨v239, v236, c1_i32_108⟩
def k0_mult18 (i : grid0.Coords) (k0_t8 : Fin (k0_t8_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let c1_i32_108 : BitVec 32 := 1#32
  let arg15 : BitVec 32 := Scf.iv v239 c1_i32_108 k0_t8
  let c256_i32_119 : BitVec 32 := 256#32
  let v253 : BitVec 32 := Scalar.muli arg15 c256_i32_119
  v253
def k0_mult19 (i : grid0.Coords) (k0_t8 : Fin (k0_t8_loop i).trips) : BitVec 32 :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let c1_i32_108 : BitVec 32 := 1#32
  let arg15 : BitVec 32 := Scf.iv v239 c1_i32_108 k0_t8
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  v256
def k0_off23 (i : grid0.Coords) (k0_t8 : Fin (k0_t8_loop i).trips) : Fin 2 → Nat :=
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let c1_i32_108 : BitVec 32 := 1#32
  let arg15 : BitVec 32 := Scf.iv v239 c1_i32_108 k0_t8
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  let v257 : BitVec 32 := v256
  let v258 : Index := Scalar.indexCast v257
  let c0_123 : Index := 0#32
  ![v258.toNat, 0]
def k0_off24 (i : grid0.Coords) (k0_t8 : Fin (k0_t8_loop i).trips) : Fin 2 → Nat :=
  let c0_126 : Index := 0#32
  let arg3 : BitVec 32 := BitVec.ofNat 32 (i 3).val
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg3 c4_i32
  let c0_i32_3 : BitVec 32 := 0#32
  let v13 : BitVec 1 := Scalar.cmpi .ne v12 c0_i32_3
  let v14 : BitVec 1 := Scalar.andi v11 v13
  let v0 : BitVec 32 := Scalar.divsi arg3 c4_i32
  let c1_i32 : BitVec 32 := 1#32
  let v15 : BitVec 32 := Scalar.subi v0 c1_i32
  let v16 : BitVec 32 := Scalar.select v14 v15 v0
  let c4_i32_103 : BitVec 32 := 4#32
  let v233 : BitVec 32 := Scalar.muli v16 c4_i32_103
  let c1_i32_104 : BitVec 32 := 1#32
  let v234 : BitVec 32 := Scalar.addi arg3 c1_i32_104
  let v235 : BitVec 32 := Scalar.subi v234 v233
  let c1_i32_106 : BitVec 32 := 1#32
  let v237 : BitVec 32 := Scalar.divsi v235 c1_i32_106
  let v238 : BitVec 32 := Scalar.muli v237 c1_i32_106
  let v239 : BitVec 32 := Scalar.addi v233 v238
  let c1_i32_108 : BitVec 32 := 1#32
  let arg15 : BitVec 32 := Scf.iv v239 c1_i32_108 k0_t8
  let c256_i32_119 : BitVec 32 := 256#32
  let v253 : BitVec 32 := Scalar.muli arg15 c256_i32_119
  let v254 : BitVec 32 := v253
  let c0_i32_122 : BitVec 32 := 0#32
  let v256 : BitVec 32 := Scalar.addi v254 c0_i32_122
  let v257 : BitVec 32 := v256
  let v269 : Index := Scalar.indexCast v257
  ![0, v269.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c4_i32 : BitVec 32 := 4#32
  let v1 : BitVec 32 := Scalar.muli arg1 c4_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.muli arg0 c128_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.muli arg0 c128_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

abbrev stage0_0 : Fin 2 → Memref sig .tc .smem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .smem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S128x32768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== KernelIdeal.lean ====
variable {F : FTy → Type} [FloatOps F] [Named F]
def κ : String → Option EReal := fun
  | "log2_max" => some (((Real.log 448) * (Real.log 2)⁻¹ : ℝ) : EReal)
  | "scale" => some (((Real.log 2)⁻¹ * (Real.sqrt 128)⁻¹ : ℝ) : EReal)
  | _ => none
-- ==== ReferenceIdeal.lean ====
abbrev S32x1x256 : Shape := ⟨3, ![32, 1, 256]⟩
abbrev S8x1x512 : Shape := ⟨3, ![8, 1, 512]⟩
abbrev S65536x2048 : Shape := ⟨2, ![65536, 2048]⟩
abbrev S65536x512 : Shape := ⟨2, ![65536, 512]⟩
abbrev S1024x32768 : Shape := ⟨2, ![1024, 32768]⟩
abbrev S2x8x512 : Shape := ⟨3, ![2, 8, 512]⟩
abbrev S2x32768x16x128 : Shape := ⟨4, ![2, 32768, 16, 128]⟩
abbrev S2x16x32768x128 : Shape := ⟨4, ![2, 16, 32768, 128]⟩
abbrev S32x32768x128 : Shape := ⟨3, ![32, 32768, 128]⟩
abbrev S2x32768x4x128 : Shape := ⟨4, ![2, 32768, 4, 128]⟩
abbrev S2x4x32768x128 : Shape := ⟨4, ![2, 4, 32768, 128]⟩
abbrev S2x4x4x32768x128 : Shape := ⟨5, ![2, 4, 4, 32768, 128]⟩
abbrev S2x4x128x32768 : Shape := ⟨4, ![2, 4, 128, 32768]⟩
abbrev S2x4x4x128x32768 : Shape := ⟨5, ![2, 4, 4, 128, 32768]⟩
abbrev S2x16x128x32768 : Shape := ⟨4, ![2, 16, 128, 32768]⟩
abbrev S32x128x32768 : Shape := ⟨3, ![32, 128, 32768]⟩
abbrev S32x256 : Shape := ⟨2, ![32, 256]⟩
abbrev S32x256x128 : Shape := ⟨3, ![32, 256, 128]⟩
abbrev S32x32768 : Shape := ⟨2, ![32, 32768]⟩
abbrev S32x32768x1 : Shape := ⟨3, ![32, 32768, 1]⟩
abbrev S2x4x512 : Shape := ⟨3, ![2, 4, 512]⟩
abbrev S2x4x512x64 : Shape := ⟨4, ![2, 4, 512, 64]⟩
abbrev S2x4x32768 : Shape := ⟨3, ![2, 4, 32768]⟩
abbrev S2x4x4x32768 : Shape := ⟨4, ![2, 4, 4, 32768]⟩
abbrev S2x16x32768 : Shape := ⟨3, ![2, 16, 32768]⟩
abbrev S32x1x32768 : Shape := ⟨3, ![32, 1, 32768]⟩
abbrev S2x1x512 : Shape := ⟨3, ![2, 1, 512]⟩
abbrev S2x512 : Shape := ⟨2, ![2, 512]⟩
abbrev S2x4x128 : Shape := ⟨3, ![2, 4, 128]⟩
abbrev S2x4x4x128 : Shape := ⟨4, ![2, 4, 4, 128]⟩
abbrev S2x16x128 : Shape := ⟨3, ![2, 16, 128]⟩
abbrev S32x1x128 : Shape := ⟨3, ![32, 1, 128]⟩
abbrev S32x32768x32768 : Shape := ⟨3, ![32, 32768, 32768]⟩

abbrev nBuf : Space → Nat
  | .hbm => 35
  | .vmem => 7
  | .smem => 0
  | _ => 0

abbrev bufTy : (tb : Table) → Fin (tcTables nBuf tb) → BufTy
  | .hbm, ⟨0, _⟩ => ⟨S32x1x256, .f32⟩
  | .hbm, ⟨1, _⟩ => ⟨S8x1x512, .f32⟩
  | .hbm, ⟨2, _⟩ => ⟨S65536x2048, .fp8e4m3⟩
  | .hbm, ⟨3, _⟩ => ⟨S65536x512, .fp8e4m3⟩
  | .hbm, ⟨4, _⟩ => ⟨S1024x32768, .fp8e4m3⟩
  | .hbm, ⟨5, _⟩ => ⟨S2x8x512, .f32⟩
  | .hbm, ⟨6, _⟩ => ⟨S2x32768x16x128, .fp8e4m3⟩
  | .hbm, ⟨7, _⟩ => ⟨S2x16x32768x128, .fp8e4m3⟩
  | .hbm, ⟨8, _⟩ => ⟨S32x32768x128, .fp8e4m3⟩
  | .hbm, ⟨9, _⟩ => ⟨S2x32768x4x128, .fp8e4m3⟩
  | .hbm, ⟨10, _⟩ => ⟨S2x4x32768x128, .fp8e4m3⟩
  | .hbm, ⟨11, _⟩ => ⟨S2x4x4x32768x128, .fp8e4m3⟩
  | .hbm, ⟨12, _⟩ => ⟨S2x16x32768x128, .fp8e4m3⟩
  | .hbm, ⟨13, _⟩ => ⟨S32x32768x128, .fp8e4m3⟩
  | .hbm, ⟨14, _⟩ => ⟨S2x4x128x32768, .fp8e4m3⟩
  | .hbm, ⟨15, _⟩ => ⟨S2x4x4x128x32768, .fp8e4m3⟩
  | .hbm, ⟨16, _⟩ => ⟨S2x16x128x32768, .fp8e4m3⟩
  | .hbm, ⟨17, _⟩ => ⟨S32x128x32768, .fp8e4m3⟩
  | .hbm, ⟨18, _⟩ => ⟨S32x256, .f32⟩
  | .hbm, ⟨19, _⟩ => ⟨S32x256x128, .f32⟩
  | .hbm, ⟨20, _⟩ => ⟨S32x32768, .f32⟩
  | .hbm, ⟨21, _⟩ => ⟨S32x32768x1, .f32⟩
  | .hbm, ⟨22, _⟩ => ⟨S2x4x512, .f32⟩
  | .hbm, ⟨23, _⟩ => ⟨S2x4x512x64, .f32⟩
  | .hbm, ⟨24, _⟩ => ⟨S2x4x32768, .f32⟩
  | .hbm, ⟨25, _⟩ => ⟨S2x4x4x32768, .f32⟩
  | .hbm, ⟨26, _⟩ => ⟨S2x16x32768, .f32⟩
  | .hbm, ⟨27, _⟩ => ⟨S32x1x32768, .f32⟩
  | .hbm, ⟨28, _⟩ => ⟨S2x1x512, .f32⟩
  | .hbm, ⟨29, _⟩ => ⟨S2x512, .f32⟩
  | .hbm, ⟨30, _⟩ => ⟨S2x4x128, .f32⟩
  | .hbm, ⟨31, _⟩ => ⟨S2x4x4x128, .f32⟩
  | .hbm, ⟨32, _⟩ => ⟨S2x16x128, .f32⟩
  | .hbm, ⟨33, _⟩ => ⟨S32x1x128, .f32⟩
  | .hbm, ⟨34, _⟩ => ⟨S65536x2048, .bf16⟩
  | .local _ .vmem, ⟨0, _⟩ => ⟨S32x32768x1, .f32⟩
  | .local _ .vmem, ⟨1, _⟩ => ⟨S32x1x32768, .f32⟩
  | .local _ .vmem, ⟨2, _⟩ => ⟨S32x32768x128, .fp8e4m3⟩
  | .local _ .vmem, ⟨3, _⟩ => ⟨S32x32768x128, .fp8e4m3⟩
  | .local _ .vmem, ⟨4, _⟩ => ⟨S32x128x32768, .fp8e4m3⟩
  | .local _ .vmem, ⟨5, _⟩ => ⟨S32x1x128, .f32⟩
  | .local _ .vmem, ⟨6, _⟩ => ⟨S65536x2048, .bf16⟩
  | _, _ => ⟨S32x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_fp8_max" => some ((1 / 448 : ℝ) : EReal)
  | "inv_sqrt_d" => some (((Real.sqrt 128)⁻¹ : ℝ) : EReal)
  | _ => none

abbrev grid0 : Pipeline.Grid := .none

abbrev stage0_0 : Fin 1 → Memref sig .tc .vmem S32x32768x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32768x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128x32768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S65536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Offsets.lean ====
/-
  Closed forms of the addresses and trip counts `Kernel` computes on its scalar unit. Every one is a quotient or a
  multiple of the last grid coordinate (the query tile), which is below 128.
-/
module

public import proofs.«01_k».proof.Proof.Gen.Kernel.Loops
public import Idealize.ShloMosaic.Lib.Exec
public import Idealize.ShloMosaic.Lib.Tactic

@[expose] public section

noncomputable section

namespace Cert.Proof.Kernel

open Cert.Kernel
open Idealize.ShloMosaic Idealize.ShloMosaic.Tactic

/-- The query tile of a grid point. -/
abbrev qt (i : grid0.Coords) : ℕ := (i 3).val

theorem qt_lt (i : grid0.Coords) : qt i < 128 := (i 3).isLt

/-- The score loop over 1024-row key blocks runs `qt / 4` times. -/
theorem trips1 (i : grid0.Coords) : (k0_t1_loop i).trips = qt i / 4 := by
  unfold k0_t1_loop
  dsimp only
  generalize hb : i 3 = b
  change _ = (i 3).val / 4
  rw [hb]
  change Fin 128 at b
  clear hb
  revert b
  decide +kernel

/-- The remainder loop behind it never runs. -/
theorem trips2 (i : grid0.Coords) : (k0_t2_loop i).trips = 0 := by
  unfold k0_t2_loop
  dsimp only
  generalize i 3 = b
  change Fin 128 at b
  revert b
  decide +kernel

/-- The score loop over 256-row key blocks runs `qt % 4` times. -/
theorem trips3 (i : grid0.Coords) : (k0_t3_loop i).trips = qt i % 4 := by
  unfold k0_t3_loop
  dsimp only
  generalize hb : i 3 = b
  change _ = (i 3).val % 4
  rw [hb]
  change Fin 128 at b
  clear hb
  revert b
  decide +kernel

/-- The remainder loop behind it never runs. -/
theorem trips4 (i : grid0.Coords) : (k0_t4_loop i).trips = 0 := by
  unfold k0_t4_loop
  dsimp only
  generalize i 3 = b
  change Fin 128 at b
  revert b
  decide +kernel

/-- The weight loop over 1024-row key blocks runs `qt / 4` times. -/
theorem trips5 (i : grid0.Coords) : (k0_t5_loop i).trips = qt i / 4 := by
  unfold k0_t5_loop
  dsimp only
  generalize hb : i 3 = b
  change _ = (i 3).val / 4
  rw [hb]
  change Fin 128 at b
  clear hb
  revert b
  decide +kernel

/-- The remainder loop behind it never runs. -/
theorem trips6 (i : grid0.Coords) : (k0_t6_loop i).trips = 0 := by
  unfold k0_t6_loop
  dsimp only
  generalize i 3 = b
  change Fin 128 at b
  revert b
  decide +kernel

/-- The weight loop over 256-row key blocks runs `qt % 4 + 1` times: its last block is the diagonal one. -/
theorem trips7 (i : grid0.Coords) : (k0_t7_loop i).trips = qt i % 4 + 1 := by
  unfold k0_t7_loop
  dsimp only
  generalize hb : i 3 = b
  change _ = (i 3).val % 4 + 1
  rw [hb]
  change Fin 128 at b
  clear hb
  revert b
  decide +kernel

/-- The remainder loop behind it never runs. -/
theorem trips8 (i : grid0.Coords) : (k0_t8_loop i).trips = 0 := by
  unfold k0_t8_loop
  dsimp only
  generalize i 3 = b
  change Fin 128 at b
  revert b
  decide +kernel

/-- A trip of the 1024-row loop is one of at most 31. -/
theorem lt1 (i : grid0.Coords) (k : Fin (k0_t1_loop i).trips) : k.val < 32 := by
  have h := k.isLt.trans_eq (trips1 i)
  have hq := qt_lt i
  omega

/-- A trip of the 256-row loop is one of at most 3. -/
theorem lt3 (i : grid0.Coords) (k : Fin (k0_t3_loop i).trips) : k.val < 4 := by
  have h := k.isLt.trans_eq (trips3 i)
  have hq := qt_lt i
  omega

/-- A trip of the 1024-row loop is one of at most 31. -/
theorem lt5 (i : grid0.Coords) (k : Fin (k0_t5_loop i).trips) : k.val < 32 := by
  have h := k.isLt.trans_eq (trips5 i)
  have hq := qt_lt i
  omega

/-- A trip of the 256-row loop is one of at most 4. -/
theorem lt7 (i : grid0.Coords) (k : Fin (k0_t7_loop i).trips) : k.val < 5 := by
  have h := k.isLt.trans_eq (trips7 i)
  have hq := qt_lt i
  omega

/-- The query scales of a tile are its two 128-row groups. -/
theorem off1_eq (i : grid0.Coords) (r : Fin 2) :
    k0_off1 i (BitVec.ofNat 32 (r.val)) = ![0, 0, 2 * qt i + r.val] := by
  unfold k0_off1 qt
  dsimp only
  generalize i 3 = b
  change Fin 128 at b
  revert r
  revert b
  decide +kernel

/-- The key rows of a 1024-row trip. -/
theorem off2_eq (i : grid0.Coords) (k : Fin (k0_t1_loop i).trips) :
    k0_off2 i k = ![1024 * k.val, 0] := by
  have hk := lt1 i k
  unfold k0_off2
  dsimp only
  generalize k.val = n at hk ⊢
  skip
  revert n
  decide +kernel

/-- The key scale of group `r` of a 1024-row trip. -/
theorem off3_eq (i : grid0.Coords) (k : Fin (k0_t1_loop i).trips) (r : Fin 16) :
    k0_off3 i k (BitVec.ofNat 32 (r.val)) = ![0, 0, 16 * k.val + r.val] := by
  have hk := lt1 i k
  unfold k0_off3
  dsimp only
  generalize k.val = n at hk ⊢
  revert r
  revert n
  decide +kernel

/-- The score rows of group `r` of a 1024-row trip. -/
theorem off4_eq (i : grid0.Coords) (k : Fin (k0_t1_loop i).trips) (r : Fin 16) :
    k0_off4 i k (BitVec.ofNat 32 (64 * r.val)) = ![1024 * k.val + 64 * r.val, 0] := by
  have hk := lt1 i k
  unfold k0_off4
  dsimp only
  generalize k.val = n at hk ⊢
  revert r
  revert n
  decide +kernel

/-- The key rows of a 256-row trip. -/
theorem off8_eq (i : grid0.Coords) (k : Fin (k0_t3_loop i).trips) :
    k0_off8 i k = ![256 * (4 * (qt i / 4) + k.val), 0] := by
  have hk := lt3 i k
  unfold k0_off8 qt
  dsimp only
  generalize k.val = n at hk ⊢
  generalize i 3 = b
  change Fin 128 at b
  skip
  clear k
  revert b n
  decide +kernel

/-- The key scale of group `r` of a 256-row trip. -/
theorem off9_eq (i : grid0.Coords) (k : Fin (k0_t3_loop i).trips) (r : Fin 4) :
    k0_off9 i k (BitVec.ofNat 32 (r.val)) = ![0, 0, 4 * (4 * (qt i / 4) + k.val) + r.val] := by
  have hk := lt3 i k
  unfold k0_off9 qt
  dsimp only
  generalize k.val = n at hk ⊢
  generalize i 3 = b
  change Fin 128 at b
  revert r
  clear k
  revert b n
  decide +kernel

/-- The score rows of group `r` of a 256-row trip. -/
theorem off10_eq (i : grid0.Coords) (k : Fin (k0_t3_loop i).trips) (r : Fin 4) :
    k0_off10 i k (BitVec.ofNat 32 (64 * r.val)) = ![256 * (4 * (qt i / 4) + k.val) + 64 * r.val, 0] := by
  have hk := lt3 i k
  unfold k0_off10 qt
  dsimp only
  generalize k.val = n at hk ⊢
  generalize i 3 = b
  change Fin 128 at b
  revert r
  clear k
  revert b n
  decide +kernel

/-- The key rows of the diagonal block. -/
theorem off14_eq (i : grid0.Coords) :
    k0_off14 i = ![256 * qt i, 0] := by
  unfold k0_off14 qt
  dsimp only
  generalize i 3 = b
  change Fin 128 at b
  skip
  revert b
  decide +kernel

/-- The key scale of group `r` of the diagonal block. -/
theorem off15_eq (i : grid0.Coords) (r : Fin 4) :
    k0_off15 i (BitVec.ofNat 32 (r.val)) = ![0, 0, 4 * qt i + r.val] := by
  unfold k0_off15 qt
  dsimp only
  generalize i 3 = b
  change Fin 128 at b
  revert r
  revert b
  decide +kernel

/-- The score rows of group `r` of the diagonal block. -/
theorem off16_eq (i : grid0.Coords) (r : Fin 4) :
    k0_off16 i (BitVec.ofNat 32 (64 * r.val)) = ![256 * qt i + 64 * r.val, 0] := by
  unfold k0_off16 qt
  dsimp only
  generalize i 3 = b
  change Fin 128 at b
  revert r
  revert b
  decide +kernel

/-- The score rows of quarter `r` of a 1024-row weight trip. -/
theorem off17_eq (i : grid0.Coords) (k : Fin (k0_t5_loop i).trips) (r : Fin 4) :
    k0_off17 i k (BitVec.ofNat 32 (256 * r.val)) = ![1024 * k.val + 256 * r.val, 0] := by
  have hk := lt5 i k
  unfold k0_off17
  dsimp only
  generalize k.val = n at hk ⊢
  revert r
  revert n
  decide +kernel

/-- The value columns of quarter `r` of a 1024-row weight trip. -/
theorem off18_eq (i : grid0.Coords) (k : Fin (k0_t5_loop i).trips) (r : Fin 4) :
    k0_off18 i k (BitVec.ofNat 32 (256 * r.val)) = ![0, 1024 * k.val + 256 * r.val] := by
  have hk := lt5 i k
  unfold k0_off18
  dsimp only
  generalize k.val = n at hk ⊢
  revert r
  revert n
  decide +kernel

/-- The score rows of a 256-row weight trip. -/
theorem off21_eq (i : grid0.Coords) (k : Fin (k0_t7_loop i).trips) :
    k0_off21 i k = ![256 * (4 * (qt i / 4) + k.val), 0] := by
  have hk := lt7 i k
  unfold k0_off21 qt
  dsimp only
  generalize k.val = n at hk ⊢
  generalize i 3 = b
  change Fin 128 at b
  skip
  clear k
  revert b n
  decide +kernel

/-- The value columns of a 256-row weight trip. -/
theorem off22_eq (i : grid0.Coords) (k : Fin (k0_t7_loop i).trips) :
    k0_off22 i k = ![0, 256 * (4 * (qt i / 4) + k.val)] := by
  have hk := lt7 i k
  unfold k0_off22 qt
  dsimp only
  generalize k.val = n at hk ⊢
  generalize i 3 = b
  change Fin 128 at b
  skip
  clear k
  revert b n
  decide +kernel

/-! The instances the symbolic run looks up, one per literal constant. -/

instance (i : grid0.Coords) (k : Fin (k0_t1_loop i).trips) : ClosedOff (k0_off4 i k 0#32) := ⟨![1024 * k.val + 0, 0], off4_eq i k 0⟩
instance (i : grid0.Coords) (k : Fin (k0_t1_loop i).trips) : ClosedOff (k0_off4 i k 64#32) := ⟨![1024 * k.val + 64, 0], off4_eq i k 1⟩
instance (i : grid0.Coords) (k : Fin (k0_t1_loop i).trips) : ClosedOff (k0_off4 i k 128#32) := ⟨![1024 * k.val + 128, 0], off4_eq i k 2⟩
instance (i : grid0.Coords) (k : Fin (k0_t1_loop i).trips) : ClosedOff (k0_off4 i k 192#32) := ⟨![1024 * k.val + 192, 0], off4_eq i k 3⟩
instance (i : grid0.Coords) (k : Fin (k0_t1_loop i).trips) : ClosedOff (k0_off4 i k 256#32) := ⟨![1024 * k.val + 256, 0], off4_eq i k 4⟩
instance (i : grid0.Coords) (k : Fin (k0_t1_loop i).trips) : ClosedOff (k0_off4 i k 320#32) := ⟨![1024 * k.val + 320, 0], off4_eq i k 5⟩
instance (i : grid0.Coords) (k : Fin (k0_t1_loop i).trips) : ClosedOff (k0_off4 i k 384#32) := ⟨![1024 * k.val + 384, 0], off4_eq i k 6⟩
instance (i : grid0.Coords) (k : Fin (k0_t1_loop i).trips) : ClosedOff (k0_off4 i k 448#32) := ⟨![1024 * k.val + 448, 0], off4_eq i k 7⟩
instance (i : grid0.Coords) (k : Fin (k0_t1_loop i).trips) : ClosedOff (k0_off4 i k 512#32) := ⟨![1024 * k.val + 512, 0], off4_eq i k 8⟩
instance (i : grid0.Coords) (k : Fin (k0_t1_loop i).trips) : ClosedOff (k0_off4 i k 576#32) := ⟨![1024 * k.val + 576, 0], off4_eq i k 9⟩
instance (i : grid0.Coords) (k : Fin (k0_t1_loop i).trips) : ClosedOff (k0_off4 i k 640#32) := ⟨![1024 * k.val + 640, 0], off4_eq i k 10⟩
instance (i : grid0.Coords) (k : Fin (k0_t1_loop i).trips) : ClosedOff (k0_off4 i k 704#32) := ⟨![1024 * k.val + 704, 0], off4_eq i k 11⟩
instance (i : grid0.Coords) (k : Fin (k0_t1_loop i).trips) : ClosedOff (k0_off4 i k 768#32) := ⟨![1024 * k.val + 768, 0], off4_eq i k 12⟩
instance (i : grid0.Coords) (k : Fin (k0_t1_loop i).trips) : ClosedOff (k0_off4 i k 832#32) := ⟨![1024 * k.val + 832, 0], off4_eq i k 13⟩
instance (i : grid0.Coords) (k : Fin (k0_t1_loop i).trips) : ClosedOff (k0_off4 i k 896#32) := ⟨![1024 * k.val + 896, 0], off4_eq i k 14⟩
instance (i : grid0.Coords) (k : Fin (k0_t1_loop i).trips) : ClosedOff (k0_off4 i k 960#32) := ⟨![1024 * k.val + 960, 0], off4_eq i k 15⟩
instance (i : grid0.Coords) (k : Fin (k0_t3_loop i).trips) : ClosedOff (k0_off10 i k 0#32) := ⟨![256 * (4 * (qt i / 4) + k.val) + 0, 0], off10_eq i k 0⟩
instance (i : grid0.Coords) (k : Fin (k0_t3_loop i).trips) : ClosedOff (k0_off10 i k 64#32) := ⟨![256 * (4 * (qt i / 4) + k.val) + 64, 0], off10_eq i k 1⟩
instance (i : grid0.Coords) (k : Fin (k0_t3_loop i).trips) : ClosedOff (k0_off10 i k 128#32) := ⟨![256 * (4 * (qt i / 4) + k.val) + 128, 0], off10_eq i k 2⟩
instance (i : grid0.Coords) (k : Fin (k0_t3_loop i).trips) : ClosedOff (k0_off10 i k 192#32) := ⟨![256 * (4 * (qt i / 4) + k.val) + 192, 0], off10_eq i k 3⟩
instance (i : grid0.Coords) : ClosedOff (k0_off16 i 0#32) := ⟨![256 * qt i + 0, 0], off16_eq i 0⟩
instance (i : grid0.Coords) : ClosedOff (k0_off16 i 64#32) := ⟨![256 * qt i + 64, 0], off16_eq i 1⟩
instance (i : grid0.Coords) : ClosedOff (k0_off16 i 128#32) := ⟨![256 * qt i + 128, 0], off16_eq i 2⟩
instance (i : grid0.Coords) : ClosedOff (k0_off16 i 192#32) := ⟨![256 * qt i + 192, 0], off16_eq i 3⟩

end Cert.Proof.Kernel

end
-- ==== Proof.FrameKernel.lean ====
/-
  The frame of `Kernel`: the program terminates without a fault, its argument arrays end unchanged and every semaphore
  counter ends at zero. The kernel body is run once, at symbolic operands; the four score loops go by an invariant that
  says only which buffers a trip touches (the two remainder loops run no trip), the weight loops by the generated one.
  Nothing is said of what the result holds.
-/
module

public import proofs.«01_k».proof.Proof.Offsets
public import proofs.«01_k».proof.Proof.Gen.Kernel.Frame
public import Idealize.ShloMosaic.Lib.Pipeline.Frame
public import Idealize.ShloMosaic.Lib.Pipeline.Kit
public import Idealize.ShloMosaic.Lib.Tactic

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- A memref's elements held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-! ## The loops -/

section Loops

variable (c : Dev nD) (i : grid0.Coords)
  (arg4 : Memref sig .tc .smem S1x1x256 .f32) (harg4 : arg4.IsWhole)
  (arg5 : Memref sig .tc .smem S1x1x512 .f32) (harg5 : arg5.IsWhole)
  (arg6 : Memref sig .tc .vmem S256x128 .fp8e4m3) (harg6 : arg6.IsWhole)
  (arg7 : Memref sig .tc .vmem S32768x128 .fp8e4m3) (harg7 : arg7.IsWhole)
  (arg8 : Memref sig .tc .vmem S128x32768 .fp8e4m3) (harg8 : arg8.IsWhole)
  (arg9 : Memref sig .tc .vmem S1x8x128 .f32) (harg9 : arg9.IsWhole)
  (arg10 : Memref sig .tc .vmem S256x128 .bf16) (harg10 : arg10.IsWhole)
  (arg11 : Memref sig .tc .vmem S32768x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S128x256 .f32) (harg14 : arg14.IsWhole)

/-- What a score loop keeps: its three inputs at their contents, the score buffer and the running maximum at some. -/
def scoreInv (f5 : BufTy.Contents (Elt F) arg5.view.ty) (f6 : BufTy.Contents (Elt F) arg6.view.ty)
    (f7 : BufTy.Contents (Elt F) arg7.view.ty) : sProp 𝕄 :=
  iprop(pt c arg5 f5 ∗ pt c arg6 f6 ∗ pt c arg7 f7 ∗ (∃ f, pt c arg11 f) ∗ (∃ f, pt c arg12 f))

/-- The score loop over 1024-row blocks. -/
@[sl_loop, instance_reducible] def loopInv_k0_t1 (arg3 : BitVec 32) (v16 : BitVec 32) (v29 : FVec F S1x256 .f32) (cst_14 : F .f32)
    (f5 : BufTy.Contents (Elt F) arg5.view.ty) (f6 : BufTy.Contents (Elt F) arg6.view.ty) (f7 : BufTy.Contents (Elt F) arg7.view.ty) :
    LoopInvTy_k0_t1 (F := F) Unit ℕ (UU nD τ) ℕ 𝒱₀ c none Set.univ i arg4 harg4 arg5 harg5 arg6 harg6 arg7 harg7 arg8 harg8 arg9 harg9 arg10 harg10 arg11 harg11 arg12 harg12 arg13 harg13 arg14 harg14 arg3 v16 v29 cst_14 where
  inv := fun _ _ => scoreInv c arg5 arg6 arg7 arg11 arg12 f5 f6 f7
  step := fun k acc => by
    unfold scoreInv k0_t1_body
    iintro ⟨H5, H6, H7, ⟨%f11, H11⟩, ⟨%f12, H12⟩⟩
    sl_exec
    sl_step
    isplitl [H5]; · iexact H5
    isplitl [H6]; · iexact H6
    isplitl [H7]; · iexact H7
    isplitl [H11]; · iexists _; iexact H11
    iexists _; iexact H12

/-- The score loop over 256-row blocks. -/
@[sl_loop, instance_reducible] def loopInv_k0_t3 (arg3 : BitVec 32) (v16 : BitVec 32) (v29 : FVec F S1x256 .f32) (cst_14 : F .f32) (v47 : BitVec 32)
    (f5 : BufTy.Contents (Elt F) arg5.view.ty) (f6 : BufTy.Contents (Elt F) arg6.view.ty) (f7 : BufTy.Contents (Elt F) arg7.view.ty) :
    LoopInvTy_k0_t3 (F := F) Unit ℕ (UU nD τ) ℕ 𝒱₀ c none Set.univ i arg4 harg4 arg5 harg5 arg6 harg6 arg7 harg7 arg8 harg8 arg9 harg9 arg10 harg10 arg11 harg11 arg12 harg12 arg13 harg13 arg14 harg14 arg3 v16 v29 cst_14 v47 where
  inv := fun _ _ => scoreInv c arg5 arg6 arg7 arg11 arg12 f5 f6 f7
  step := fun k acc => by
    unfold scoreInv k0_t3_body
    iintro ⟨H5, H6, H7, ⟨%f11, H11⟩, ⟨%f12, H12⟩⟩
    sl_exec
    sl_step
    isplitl [H5]; · iexact H5
    isplitl [H6]; · iexact H6
    isplitl [H7]; · iexact H7
    isplitl [H11]; · iexists _; iexact H11
    iexists _; iexact H12

/-- The body run once: the six inputs handed back as they were, the result and the four scratch buffers at some
    contents. -/
theorem kernelRun (d4 : Vec F S1x1x256 .f32) (d5 : Vec F S1x1x512 .f32) (d6 : Vec F S256x128 .fp8e4m3)
    (d7 : Vec F S32768x128 .fp8e4m3) (d8 : Vec F S128x32768 .fp8e4m3) (d9 : Vec F S1x8x128 .f32) (K : PUnit → sProp 𝕄) :
    iprop(owns (c : Thread nD τ) arg4 fullShare d4 ∗ owns (c : Thread nD τ) arg5 fullShare d5 ∗ owns (c : Thread nD τ) arg6 fullShare d6
        ∗ owns (c : Thread nD τ) arg7 fullShare d7 ∗ owns (c : Thread nD τ) arg8 fullShare d8 ∗ owns (c : Thread nD τ) arg9 fullShare d9
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg4 fullShare d4 ∗ owns (c : Thread nD τ) arg5 fullShare d5 ∗ owns (c : Thread nD τ) arg6 fullShare d6
        ∗ owns (c : Thread nD τ) arg7 fullShare d7 ∗ owns (c : Thread nD τ) arg8 fullShare d8 ∗ owns (c : Thread nD τ) arg9 fullShare d9
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)) -∗ K ⟨⟩))
      ⊢ wp frame (wpE (defs₀ (F := F)) 𝒱₀ c none) Set.univ
          (cc0_attn i arg4 harg4 arg5 harg5 arg6 harg6 arg7 harg7 arg8 harg8 arg9 harg9 arg10 harg10 arg11 harg11 arg12 harg12 arg13 harg13 arg14 harg14) K := by
  simp only [cc0_attn_eq_skeleton]; unfold cc0_attn_skel
  unfold owns
  iintro ⟨⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, Hk⟩
  have h2 := trips2 i
  have h4' := trips4 i
  have h6' := trips6 i
  have h8' := trips8 i
  sl_exec
  sl_step
  iapply Hk
  isplitl [H4]; · iexists f4; isplitr; swap; · iexact H4
                  ipureintro; exact h4
  isplitl [H5]; · iexists f5; isplitr; swap; · iexact H5
                  ipureintro; exact h5
  isplitl [H6]; · iexists f6; isplitr; swap; · iexact H6
                  ipureintro; exact h6
  isplitl [H7]; · iexists f7; isplitr; swap; · iexact H7
                  ipureintro; exact h7
  isplitl [H8]; · iexists f8; isplitr; swap; · iexact H8
                  ipureintro; exact h8
  isplitl [H9]; · iexists f9; isplitr; swap; · iexact H9
                  ipureintro; exact h9
  isplitl [H10]; · iexists _, _; isplitr; swap; · iexact H10
                   ipureintro; rfl
  isplitl [H11]; · iexists _, _; isplitr; swap; · iexact H11
                   ipureintro; rfl
  isplitl [H12]; · iexists _, _; isplitr; swap; · iexact H12
                   ipureintro; rfl
  isplitl [H13]; · iexists _, _; isplitr; swap; · iexact H13
                   ipureintro; rfl
  iexists _, _; isplitr; swap; · iexact H14
  ipureintro; rfl

end Loops

/-! ## The pipeline's proof data -/

variable [∀ e, Nonempty (Elt F e)]
variable (m : (ℓ : Loc nD τ sig) → Buf (Elt F) ℓ) (ρ : Dev nD → PrngReg)

/-- The result's window is the one nothing is said of. -/
def forgets0 : Fin 7 → Bool := fun w => w.val == 6

/-- The arrays as the region finds them; each input's block left in place, what the body leaves in the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant between points: the four scratch buffers at some contents, the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  rw [Pipeline.ΦA, scopedRest0_eq]; simp only [owns_whole]; try rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body at any point: the inputs' buffers hold their blocks, the scratch anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    show (dats m 0 c).Φ t.castSucc = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6⟩
  iapply (kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this statement
set_option backward.isDefEq.respectTransparency.types false in
/-- Every weakly fair execution of @main terminates; every final state has the inputs' arrays as the region found them and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩, h.2⟩)
    (run_main m ρ)

end Cert.Proof.Kernel

end
-- ==== Proof.OffsetsIdeal.lean ====
/-
  Closed forms of the addresses and trip counts `KernelIdeal` computes on its scalar unit. Every one is a quotient or a
  multiple of the last grid coordinate (the query tile), which is below 128.
-/
module

public import proofs.«01_k».proof.Proof.Gen.KernelIdeal.Skeleton
public import Idealize.ShloMosaic.Lib.Exec
public import Idealize.ShloMosaic.Lib.Tactic

@[expose] public section

noncomputable section

namespace Cert.Proof.KernelIdeal

open Cert.KernelIdeal
open Idealize.ShloMosaic Idealize.ShloMosaic.Tactic

/-- The query tile of a grid point. -/
abbrev qt (i : grid0.Coords) : ℕ := (i 3).val

theorem qt_lt (i : grid0.Coords) : qt i < 128 := (i 3).isLt

/-- The score loop over 1024-row key blocks runs `qt / 4` times. -/
theorem trips1 (i : grid0.Coords) : (k0_t1_loop i).trips = qt i / 4 := by
  unfold k0_t1_loop
  dsimp only
  generalize hb : i 3 = b
  change _ = (i 3).val / 4
  rw [hb]
  change Fin 128 at b
  clear hb
  revert b
  decide +kernel

/-- The remainder loop behind it never runs. -/
theorem trips2 (i : grid0.Coords) : (k0_t2_loop i).trips = 0 := by
  unfold k0_t2_loop
  dsimp only
  generalize i 3 = b
  change Fin 128 at b
  revert b
  decide +kernel

/-- The score loop over 256-row key blocks runs `qt % 4` times. -/
theorem trips3 (i : grid0.Coords) : (k0_t3_loop i).trips = qt i % 4 := by
  unfold k0_t3_loop
  dsimp only
  generalize hb : i 3 = b
  change _ = (i 3).val % 4
  rw [hb]
  change Fin 128 at b
  clear hb
  revert b
  decide +kernel

/-- The remainder loop behind it never runs. -/
theorem trips4 (i : grid0.Coords) : (k0_t4_loop i).trips = 0 := by
  unfold k0_t4_loop
  dsimp only
  generalize i 3 = b
  change Fin 128 at b
  revert b
  decide +kernel

/-- The weight loop over 1024-row key blocks runs `qt / 4` times. -/
theorem trips5 (i : grid0.Coords) : (k0_t5_loop i).trips = qt i / 4 := by
  unfold k0_t5_loop
  dsimp only
  generalize hb : i 3 = b
  change _ = (i 3).val / 4
  rw [hb]
  change Fin 128 at b
  clear hb
  revert b
  decide +kernel

/-- The remainder loop behind it never runs. -/
theorem trips6 (i : grid0.Coords) : (k0_t6_loop i).trips = 0 := by
  unfold k0_t6_loop
  dsimp only
  generalize i 3 = b
  change Fin 128 at b
  revert b
  decide +kernel

/-- The weight loop over 256-row key blocks runs `qt % 4 + 1` times: its last block is the diagonal one. -/
theorem trips7 (i : grid0.Coords) : (k0_t7_loop i).trips = qt i % 4 + 1 := by
  unfold k0_t7_loop
  dsimp only
  generalize hb : i 3 = b
  change _ = (i 3).val % 4 + 1
  rw [hb]
  change Fin 128 at b
  clear hb
  revert b
  decide +kernel

/-- The remainder loop behind it never runs. -/
theorem trips8 (i : grid0.Coords) : (k0_t8_loop i).trips = 0 := by
  unfold k0_t8_loop
  dsimp only
  generalize i 3 = b
  change Fin 128 at b
  revert b
  decide +kernel

/-- A trip of the 1024-row loop is one of at most 31. -/
theorem lt1 (i : grid0.Coords) (k : Fin (k0_t1_loop i).trips) : k.val < 32 := by
  have h := k.isLt.trans_eq (trips1 i)
  have hq := qt_lt i
  omega

/-- A trip of the 256-row loop is one of at most 3. -/
theorem lt3 (i : grid0.Coords) (k : Fin (k0_t3_loop i).trips) : k.val < 4 := by
  have h := k.isLt.trans_eq (trips3 i)
  have hq := qt_lt i
  omega

/-- A trip of the 1024-row loop is one of at most 31. -/
theorem lt5 (i : grid0.Coords) (k : Fin (k0_t5_loop i).trips) : k.val < 32 := by
  have h := k.isLt.trans_eq (trips5 i)
  have hq := qt_lt i
  omega

/-- A trip of the 256-row loop is one of at most 4. -/
theorem lt7 (i : grid0.Coords) (k : Fin (k0_t7_loop i).trips) : k.val < 5 := by
  have h := k.isLt.trans_eq (trips7 i)
  have hq := qt_lt i
  omega

/-- The query scales of a tile are its two 128-row groups. -/
theorem off1_eq (i : grid0.Coords) (r : Fin 2) :
    k0_off1 i (BitVec.ofNat 32 (r.val)) = ![0, 0, 2 * qt i + r.val] := by
  unfold k0_off1 qt
  dsimp only
  generalize i 3 = b
  change Fin 128 at b
  revert r
  revert b
  decide +kernel

/-- The key rows of a 1024-row trip. -/
theorem off2_eq (i : grid0.Coords) (k : Fin (k0_t1_loop i).trips) :
    k0_off2 i k = ![1024 * k.val, 0] := by
  have hk := lt1 i k
  unfold k0_off2
  dsimp only
  generalize k.val = n at hk ⊢
  skip
  revert n
  decide +kernel

/-- The key scale of group `r` of a 1024-row trip. -/
theorem off3_eq (i : grid0.Coords) (k : Fin (k0_t1_loop i).trips) (r : Fin 16) :
    k0_off3 i k (BitVec.ofNat 32 (r.val)) = ![0, 0, 16 * k.val + r.val] := by
  have hk := lt1 i k
  unfold k0_off3
  dsimp only
  generalize k.val = n at hk ⊢
  revert r
  revert n
  decide +kernel

/-- The score rows of group `r` of a 1024-row trip. -/
theorem off4_eq (i : grid0.Coords) (k : Fin (k0_t1_loop i).trips) (r : Fin 16) :
    k0_off4 i k (BitVec.ofNat 32 (64 * r.val)) = ![1024 * k.val + 64 * r.val, 0] := by
  have hk := lt1 i k
  unfold k0_off4
  dsimp only
  generalize k.val = n at hk ⊢
  revert r
  revert n
  decide +kernel

/-- The key rows of a 256-row trip. -/
theorem off8_eq (i : grid0.Coords) (k : Fin (k0_t3_loop i).trips) :
    k0_off8 i k = ![256 * (4 * (qt i / 4) + k.val), 0] := by
  have hk := lt3 i k
  unfold k0_off8 qt
  dsimp only
  generalize k.val = n at hk ⊢
  generalize i 3 = b
  change Fin 128 at b
  skip
  clear k
  revert b n
  decide +kernel

/-- The key scale of group `r` of a 256-row trip. -/
theorem off9_eq (i : grid0.Coords) (k : Fin (k0_t3_loop i).trips) (r : Fin 4) :
    k0_off9 i k (BitVec.ofNat 32 (r.val)) = ![0, 0, 4 * (4 * (qt i / 4) + k.val) + r.val] := by
  have hk := lt3 i k
  unfold k0_off9 qt
  dsimp only
  generalize k.val = n at hk ⊢
  generalize i 3 = b
  change Fin 128 at b
  revert r
  clear k
  revert b n
  decide +kernel

/-- The score rows of group `r` of a 256-row trip. -/
theorem off10_eq (i : grid0.Coords) (k : Fin (k0_t3_loop i).trips) (r : Fin 4) :
    k0_off10 i k (BitVec.ofNat 32 (64 * r.val)) = ![256 * (4 * (qt i / 4) + k.val) + 64 * r.val, 0] := by
  have hk := lt3 i k
  unfold k0_off10 qt
  dsimp only
  generalize k.val = n at hk ⊢
  generalize i 3 = b
  change Fin 128 at b
  revert r
  clear k
  revert b n
  decide +kernel

/-- The key rows of the diagonal block. -/
theorem off14_eq (i : grid0.Coords) :
    k0_off14 i = ![256 * qt i, 0] := by
  unfold k0_off14 qt
  dsimp only
  generalize i 3 = b
  change Fin 128 at b
  skip
  revert b
  decide +kernel

/-- The key scale of group `r` of the diagonal block. -/
theorem off15_eq (i : grid0.Coords) (r : Fin 4) :
    k0_off15 i (BitVec.ofNat 32 (r.val)) = ![0, 0, 4 * qt i + r.val] := by
  unfold k0_off15 qt
  dsimp only
  generalize i 3 = b
  change Fin 128 at b
  revert r
  revert b
  decide +kernel

/-- The score rows of group `r` of the diagonal block. -/
theorem off16_eq (i : grid0.Coords) (r : Fin 4) :
    k0_off16 i (BitVec.ofNat 32 (64 * r.val)) = ![256 * qt i + 64 * r.val, 0] := by
  unfold k0_off16 qt
  dsimp only
  generalize i 3 = b
  change Fin 128 at b
  revert r
  revert b
  decide +kernel

/-- The score rows of quarter `r` of a 1024-row weight trip. -/
theorem off17_eq (i : grid0.Coords) (k : Fin (k0_t5_loop i).trips) (r : Fin 4) :
    k0_off17 i k (BitVec.ofNat 32 (256 * r.val)) = ![1024 * k.val + 256 * r.val, 0] := by
  have hk := lt5 i k
  unfold k0_off17
  dsimp only
  generalize k.val = n at hk ⊢
  revert r
  revert n
  decide +kernel

/-- The value columns of quarter `r` of a 1024-row weight trip. -/
theorem off18_eq (i : grid0.Coords) (k : Fin (k0_t5_loop i).trips) (r : Fin 4) :
    k0_off18 i k (BitVec.ofNat 32 (256 * r.val)) = ![0, 1024 * k.val + 256 * r.val] := by
  have hk := lt5 i k
  unfold k0_off18
  dsimp only
  generalize k.val = n at hk ⊢
  revert r
  revert n
  decide +kernel

/-- The score rows of a 256-row weight trip. -/
theorem off21_eq (i : grid0.Coords) (k : Fin (k0_t7_loop i).trips) :
    k0_off21 i k = ![256 * (4 * (qt i / 4) + k.val), 0] := by
  have hk := lt7 i k
  unfold k0_off21 qt
  dsimp only
  generalize k.val = n at hk ⊢
  generalize i 3 = b
  change Fin 128 at b
  skip
  clear k
  revert b n
  decide +kernel

/-- The value columns of a 256-row weight trip. -/
theorem off22_eq (i : grid0.Coords) (k : Fin (k0_t7_loop i).trips) :
    k0_off22 i k = ![0, 256 * (4 * (qt i / 4) + k.val)] := by
  have hk := lt7 i k
  unfold k0_off22 qt
  dsimp only
  generalize k.val = n at hk ⊢
  generalize i 3 = b
  change Fin 128 at b
  skip
  clear k
  revert b n
  decide +kernel

/-! The instances the symbolic run looks up, one per literal constant. -/

instance (i : grid0.Coords) (k : Fin (k0_t1_loop i).trips) : ClosedOff (k0_off4 i k 0#32) := ⟨![1024 * k.val + 0, 0], off4_eq i k 0⟩
instance (i : grid0.Coords) (k : Fin (k0_t1_loop i).trips) : ClosedOff (k0_off4 i k 64#32) := ⟨![1024 * k.val + 64, 0], off4_eq i k 1⟩
instance (i : grid0.Coords) (k : Fin (k0_t1_loop i).trips) : ClosedOff (k0_off4 i k 128#32) := ⟨![1024 * k.val + 128, 0], off4_eq i k 2⟩
instance (i : grid0.Coords) (k : Fin (k0_t1_loop i).trips) : ClosedOff (k0_off4 i k 192#32) := ⟨![1024 * k.val + 192, 0], off4_eq i k 3⟩
instance (i : grid0.Coords) (k : Fin (k0_t1_loop i).trips) : ClosedOff (k0_off4 i k 256#32) := ⟨![1024 * k.val + 256, 0], off4_eq i k 4⟩
instance (i : grid0.Coords) (k : Fin (k0_t1_loop i).trips) : ClosedOff (k0_off4 i k 320#32) := ⟨![1024 * k.val + 320, 0], off4_eq i k 5⟩
instance (i : grid0.Coords) (k : Fin (k0_t1_loop i).trips) : ClosedOff (k0_off4 i k 384#32) := ⟨![1024 * k.val + 384, 0], off4_eq i k 6⟩
instance (i : grid0.Coords) (k : Fin (k0_t1_loop i).trips) : ClosedOff (k0_off4 i k 448#32) := ⟨![1024 * k.val + 448, 0], off4_eq i k 7⟩
instance (i : grid0.Coords) (k : Fin (k0_t1_loop i).trips) : ClosedOff (k0_off4 i k 512#32) := ⟨![1024 * k.val + 512, 0], off4_eq i k 8⟩
instance (i : grid0.Coords) (k : Fin (k0_t1_loop i).trips) : ClosedOff (k0_off4 i k 576#32) := ⟨![1024 * k.val + 576, 0], off4_eq i k 9⟩
instance (i : grid0.Coords) (k : Fin (k0_t1_loop i).trips) : ClosedOff (k0_off4 i k 640#32) := ⟨![1024 * k.val + 640, 0], off4_eq i k 10⟩
instance (i : grid0.Coords) (k : Fin (k0_t1_loop i).trips) : ClosedOff (k0_off4 i k 704#32) := ⟨![1024 * k.val + 704, 0], off4_eq i k 11⟩
instance (i : grid0.Coords) (k : Fin (k0_t1_loop i).trips) : ClosedOff (k0_off4 i k 768#32) := ⟨![1024 * k.val + 768, 0], off4_eq i k 12⟩
instance (i : grid0.Coords) (k : Fin (k0_t1_loop i).trips) : ClosedOff (k0_off4 i k 832#32) := ⟨![1024 * k.val + 832, 0], off4_eq i k 13⟩
instance (i : grid0.Coords) (k : Fin (k0_t1_loop i).trips) : ClosedOff (k0_off4 i k 896#32) := ⟨![1024 * k.val + 896, 0], off4_eq i k 14⟩
instance (i : grid0.Coords) (k : Fin (k0_t1_loop i).trips) : ClosedOff (k0_off4 i k 960#32) := ⟨![1024 * k.val + 960, 0], off4_eq i k 15⟩
instance (i : grid0.Coords) (k : Fin (k0_t3_loop i).trips) : ClosedOff (k0_off10 i k 0#32) := ⟨![256 * (4 * (qt i / 4) + k.val) + 0, 0], off10_eq i k 0⟩
instance (i : grid0.Coords) (k : Fin (k0_t3_loop i).trips) : ClosedOff (k0_off10 i k 64#32) := ⟨![256 * (4 * (qt i / 4) + k.val) + 64, 0], off10_eq i k 1⟩
instance (i : grid0.Coords) (k : Fin (k0_t3_loop i).trips) : ClosedOff (k0_off10 i k 128#32) := ⟨![256 * (4 * (qt i / 4) + k.val) + 128, 0], off10_eq i k 2⟩
instance (i : grid0.Coords) (k : Fin (k0_t3_loop i).trips) : ClosedOff (k0_off10 i k 192#32) := ⟨![256 * (4 * (qt i / 4) + k.val) + 192, 0], off10_eq i k 3⟩
instance (i : grid0.Coords) : ClosedOff (k0_off16 i 0#32) := ⟨![256 * qt i + 0, 0], off16_eq i 0⟩
instance (i : grid0.Coords) : ClosedOff (k0_off16 i 64#32) := ⟨![256 * qt i + 64, 0], off16_eq i 1⟩
instance (i : grid0.Coords) : ClosedOff (k0_off16 i 128#32) := ⟨![256 * qt i + 128, 0], off16_eq i 2⟩
instance (i : grid0.Coords) : ClosedOff (k0_off16 i 192#32) := ⟨![256 * qt i + 192, 0], off16_eq i 3⟩

end Cert.Proof.KernelIdeal

end
-- ==== Proof.KernelOps.lean ====
/-
  The kernel body's vector payloads over the extended reals, read at an index: a group of 64 score rows, the running
  maximum over it, and the sums the weight loops add. Each statement is about one shape of payload, whatever rows it is for.
-/
module

public import proofs.«01_k».proof.Proof.Gen.KernelIdeal.Skeleton
public import Idealize.ShloMosaic.Lib.Pointwise
public import Idealize.ShloMosaic.Lib.Writes
public import Idealize.ShloMosaic.Lib.WordCmp
public import Idealize.ShloMosaic.Lib.Pipeline.FrameBody

@[expose] public section

set_option maxRecDepth 16384

noncomputable section

namespace Cert.Proof.KernelIdeal

open Cert.KernelIdeal Cert.KernelIdeal.Gen
open Idealize.ShloMosaic

/-! ## Arrays read at natural positions -/

/-- A matrix at natural positions, zero outside. -/
def at2 {a b : ℕ} (x : (⟨2, ![a, b]⟩ : Shape).Idx → EReal) (r c : ℕ) : EReal :=
  if h : r < a ∧ c < b then x (ix2 ⟨r, h.1⟩ ⟨c, h.2⟩) else 0

theorem at2_mk {a b : ℕ} (x : (⟨2, ![a, b]⟩ : Shape).Idx → EReal) (r c : ℕ) (hr : r < a) (hc : c < b) :
    at2 x r c = x (ix2 ⟨r, hr⟩ ⟨c, hc⟩) := dif_pos ⟨hr, hc⟩

/-- The row of a rank-3 array with two unit axes before it, at a natural position, zero outside. -/
def at1 {a : ℕ} (x : (⟨3, ![1, 1, a]⟩ : Shape).Idx → EReal) (r : ℕ) : EReal :=
  if h : r < a then x (ix3 0 0 ⟨r, h⟩) else 0

theorem at1_mk {a : ℕ} (x : (⟨3, ![1, 1, a]⟩ : Shape).Idx → EReal) (r : ℕ) (hr : r < a) :
    at1 x r = x (ix3 0 0 ⟨r, hr⟩) := dif_pos hr

/-! ## Sums and maxima over blocks of rows -/

theorem sum_block (f : ℕ → EReal) (n m : ℕ) :
    ∑ r ∈ Finset.range (n + m), f r = ∑ r ∈ Finset.range n, f r + ∑ k : Fin m, f (n + k.val) := by
  rw [Finset.sum_range_add, Fin.sum_univ_eq_sum_range (fun k => f (n + k))]

theorem fold_max_eq {m : ℕ} (g : Fin m → EReal) : Finset.univ.fold max (⊥ : EReal) g = Finset.univ.sup g := rfl

theorem sup_block (f : ℕ → EReal) (n m : ℕ) :
    (Finset.range (n + m)).sup f = max ((Finset.range n).sup f) (Finset.univ.sup fun k : Fin m => f (n + k.val)) := by
  apply le_antisymm
  · refine Finset.sup_le fun r hr => ?_
    by_cases h : r < n
    · exact le_trans (Finset.le_sup (f := f) (Finset.mem_range.mpr h)) (le_max_left _ _)
    · have hr' := Finset.mem_range.mp hr
      refine le_trans ?_ (le_max_right _ _)
      have := Finset.le_sup (f := fun k : Fin m => f (n + k.val)) (Finset.mem_univ ⟨r - n, by omega⟩)
      simpa [Nat.add_sub_of_le (not_lt.mp h)] using this
  · refine max_le (Finset.sup_le fun r hr => Finset.le_sup (f := f) ?_) (Finset.sup_le fun k _ => Finset.le_sup (f := f) ?_)
    · have := Finset.mem_range.mp hr; exact Finset.mem_range.mpr (by omega)
    · exact Finset.mem_range.mpr (by omega)

/-- A sum by residues modulo 8 is the sum over all rows. -/
theorem sum_by_eight (f : ℕ → EReal) (N : ℕ) :
    ∑ s : Fin 8, ∑ a ∈ Finset.range N, f (8 * a + s.val) = ∑ r ∈ Finset.range (8 * N), f r := by
  rw [Finset.sum_comm]
  induction N with
  | zero => simp
  | succ N ih => rw [Finset.sum_range_succ, ih, Nat.mul_succ, sum_block]

/-- A maximum by residues modulo 8 is the maximum over all rows. -/
theorem sup_by_eight (f : ℕ → EReal) (N : ℕ) :
    (Finset.univ.sup fun s : Fin 8 => (Finset.range N).sup fun a => f (8 * a + s.val)) = (Finset.range (8 * N)).sup f := by
  apply le_antisymm
  · refine Finset.sup_le fun s _ => Finset.sup_le fun a ha => Finset.le_sup (f := f) ?_
    have := Finset.mem_range.mp ha; exact Finset.mem_range.mpr (by omega)
  · refine Finset.sup_le fun r hr => ?_
    have hr' := Finset.mem_range.mp hr
    have h1 := Finset.le_sup (f := fun a => f (8 * a + r % 8)) (Finset.mem_range.mpr (show r / 8 < N by omega))
    have h2 := Finset.le_sup (f := fun s : Fin 8 => (Finset.range N).sup fun a => f (8 * a + s.val)) (Finset.mem_univ ⟨r % 8, by omega⟩)
    refine le_trans (le_of_eq ?_) (le_trans h1 h2)
    show f r = f (8 * (r / 8) + r % 8)
    rw [Nat.div_add_mod]

theorem ofBits_neg_inf : (Ideal.ofBits .f32 0xFF800000#32 : EReal) = ⊥ := by
  simp [Ideal.ofBits, Ideal.ieee]
theorem ofBits_448 : (Ideal.ofBits .f32 0x43E00000#32 : EReal) = 448 := by
  simp [Ideal.ofBits, Ideal.ieee]
  rw [← EReal.coe_mul, show (14680064 : ℝ) * (2 ^ 15)⁻¹ = 448 by norm_num]
  rfl

/-! ## Score groups -/

/-- The raw score of key row `r` and query row `c`. -/
def rawScore (q : S256x128.Idx → EReal) (x : S32768x128.Idx → EReal) (r c : ℕ) : EReal := ∑ d : Fin 128, at2 x r d.val * at2 q c d.val

/-- The masked, scaled score of key row `r` and the `c`-th query row of query tile `t`: `a` holds the query scales, `ks`
    the key scales, one for 64 rows. -/
def scoreY (t : ℕ) (a : S1x256.Idx → EReal) (ks : S1x1x512.Idx → EReal) (q : S256x128.Idx → EReal) (x : S32768x128.Idx → EReal)
    (r c : ℕ) : EReal :=
  if r ≤ 256 * t + c then rawScore q x r c * (at2 a 0 c * at1 ks (r / 64)) else ⊥

section Groups

variable (Y : ℕ → ℕ → EReal)

/-- The 64 rows from row `n` on are the scores `Y`. -/
def Grp (n : ℕ) (w : S64x256.Idx → EReal) : Prop := ∀ k, w k = Y (n + (k 0).val) (k 1).val

/-- A running maximum by residues modulo 8 of the first `8 * N` rows of `Y`. -/
def Mx (N : ℕ) (m : S8x256.Idx → EReal) : Prop := ∀ k, m k = (Finset.range N).sup fun a => Y (8 * a + (k 0).val) (k 1).val

/-- A running sum by residues modulo 8 of the first `8 * N` rows of `Y`. -/
def Sm (N : ℕ) (l : S8x256.Idx → EReal) : Prop := ∀ k, l k = ∑ a ∈ Finset.range N, Y (8 * a + (k 0).val) (k 1).val

/-- The 256 rows from row `n` on are `Y`. -/
def Blk (n : ℕ) (p : S256x256.Idx → EReal) : Prop := ∀ k, p k = Y (n + (k 0).val) (k 1).val

theorem shapeCast_self {S : Shape} (w : S.Idx → EReal) (h : S.ShapeCasts S) : shapeCast S w h = w := by
  funext k
  unfold shapeCast
  exact congrArg w (Shape.reshapeEquiv_self h k)

/-- The running maximum after a group of 64 rows. -/
theorem max_step (N j : ℕ) (m : FVec Ideal S8x256 .f32) (w : FVec Ideal S64x256 .f32)
    (hc : S64x256.ShapeCasts S8x8x256) (hr : S8x8x256.Reduces [0] S8x256) (hf)
    (hm : Mx Y (N + 8 * j) m) (hw : Grp Y (8 * N + 64 * j) w) :
    Mx Y (N + 8 * (j + 1)) (maximumf m (multiReduction .maximumf [0] S8x256 (shapeCast S8x8x256 w hc) 0xFF800000#32 hr hf rfl)) := by
  intro k
  rw [show N + 8 * (j + 1) = N + 8 * j + 8 by omega, sup_block, ← hm]
  idx_vars k
  pointwise
  rw [ofBits_neg_inf, fold_max_eq]
  congr 1
  refine Finset.sup_congr rfl fun a _ => (hw _).trans (congrArg₂ Y ?_ rfl)
  show 8 * N + 64 * j + (a.val * 8 + k0.val) = 8 * (N + 8 * j + a.val) + k0.val
  omega

/-- A shape cast to the same shape changes nothing. -/
theorem mx_cast (N : ℕ) (m : S8x256.Idx → EReal) (h : S8x256.ShapeCasts S8x256) (hm : Mx Y N m) : Mx Y N (shapeCast S8x256 m h) := by
  rw [shapeCast_self]; exact hm
theorem sm_cast (N : ℕ) (l : S8x256.Idx → EReal) (h : S8x256.ShapeCasts S8x256) (hl : Sm Y N l) : Sm Y N (shapeCast S8x256 l h) := by
  rw [shapeCast_self]; exact hl

/-- The running sum after a block of 256 rows. -/
theorem sum_step (N j : ℕ) (l : FVec Ideal S8x256 .f32) (p : FVec Ideal S256x256 .f32)
    (hc : S256x256.ShapeCasts S32x8x256) (hr : S32x8x256.Reduces [0] S8x256) (hf)
    (hl : Sm Y (N + 32 * j) l) (hp : Blk Y (8 * N + 256 * j) p) :
    Sm Y (N + 32 * (j + 1)) (addf l (multiReduction .add [0] S8x256 (shapeCast S32x8x256 p hc) 0x00000000#32 hr hf rfl)) := by
  intro k
  rw [show N + 32 * (j + 1) = N + 32 * j + 32 by omega, sum_block, ← hl]
  idx_vars k
  pointwise
  refine congrArg _ (Finset.sum_congr rfl fun a _ => (hp _).trans (congrArg₂ Y ?_ rfl))
  show 8 * N + 256 * j + (a.val * 8 + k0.val) = 8 * (N + 32 * j + a.val) + k0.val
  omega

/-- The `m` rows from row `n` on, weighted into the values. -/
def Pt (v : ℕ → ℕ → EReal) (n m : ℕ) (o : S128x256.Idx → EReal) : Prop :=
  ∀ k, o k = ∑ a ∈ Finset.range m, v (k 0).val (n + a) * min (Y (n + a) (k 1).val) 448

theorem pt_cast (v : ℕ → ℕ → EReal) (n m : ℕ) (o : S128x256.Idx → EReal) (h : S128x256.ShapeCasts S128x256) (ho : Pt Y v n m o) :
    Pt Y v n m (shapeCast S128x256 o h) := by
  rw [shapeCast_self]; exact ho

/-- What a block of 256 rows adds to the weighted values. -/
theorem mul_block (v : ℕ → ℕ → EReal) (n : ℕ) (x : FVec Ideal S128x256 .fp8e4m3) (p : FVec Ideal S256x256 .f32)
    (hb : FTy.bits .fp8e4m3 < FTy.bits .f32)
    (hx : ∀ k, x k = v (k 0).val (n + (k 1).val)) (hp : Blk Y n p) :
    Pt Y v n 256 (matmul dot_S128x256_S256x256_S128x256_1_0_0_1_n_n none x
        (truncf .fp8e4m3 (minimumf p (broadcast S256x256 (Scalar.ofBits (F := Ideal) .f32 0x43E00000#32))) hb)
        (constant S128x256 .f32 0x00000000#32)) := by
  intro k
  rw [← Fin.sum_univ_eq_sum_range (fun a => v (k 0).val (n + a) * min (Y (n + a) (k 1).val) 448)]
  pointwise
  rw [ofBits_448]
  exact Finset.sum_congr rfl fun a _ => by rw [hx, hp]; rfl

/-- Two weighted runs of rows one after the other. -/
theorem pt_add (v : ℕ → ℕ → EReal) (n m m' : ℕ) (o o' : FVec Ideal S128x256 .f32) (h : Pt Y v n m o) (h' : Pt Y v (n + m) m' o') :
    Pt Y v n (m + m') (addf o o') := by
  intro k
  rw [Finset.sum_range_add]
  show o k + o' k = _
  rw [h, h']
  simp only [Nat.add_assoc]

/-! ## The score buffer -/

/-- The first `n` rows of the score buffer are the scores `Y`. -/
def Upto (n : ℕ) (g : S32768x256.Idx → EReal) : Prop := ∀ j, (j 0).val < n → g j = Y (j 0).val (j 1).val

/-- Storing the next group of 64 rows. -/
theorem upto_step (M : Memref sig .tc .vmem S32768x256 .f32) (f : BufTy.Contents (Elt Ideal) M.view.ty) (L) (off : Fin 2 → ℕ)
    (inb) (w : FVec Ideal S64x256 .f32) (hc : S64x256.ShapeCasts S64x256) (n₀ j : ℕ) (ho : off = ![n₀ + 64 * j, 0])
    (h : Upto Y (n₀ + 64 * j) (M.view.read (Elt Ideal) (M.view.writes (Elt Ideal) f L))) (hw : Grp Y (n₀ + 64 * j) w) :
    Upto Y (n₀ + 64 * (j + 1)) (M.view.read (Elt Ideal) (M.view.writes (Elt Ideal) f
      (⟨Rect.unit (s := S32768x256) off S64x256.size inb, shapeCast S64x256 w hc⟩ :: L))) := by
  rw [shapeCast_self]
  subst ho
  generalize hn : n₀ + 64 * j = n at *
  rw [show n₀ + 64 * (j + 1) = n + 64 by omega]
  intro j hj
  by_cases hn : (j 0).val < n
  · rw [View.read_writes_cons_miss_of_axis (M.view) f _ L j 0 n 64 rfl rfl rfl (.inl hn)]
    exact h j hn
  · have hj' : (j 0).val < n + 64 := hj
    have hn' : ¬ (j 0).val < n := hn
    refine (View.read_writes_cons_hit_of_coords M.view f (Rect.unit (s := S32768x256) ![n, 0] S64x256.size inb) w L
      (ix2 ⟨(j 0).val - n, by omega⟩ (j 1)) j (fun a => ?_)).trans ?_
    · match a with
      | ⟨0, _⟩ => show (j 0).val = n + 1 * ((j 0).val - n); omega
      | ⟨1, _⟩ => show (j 1).val = 0 + 1 * (j 1).val; omega
    · exact (hw _).trans (congrArg₂ Y (show n + ((j 0).val - n) = (j 0).val by omega) rfl)

/-- Loading 256 rows of the score buffer that hold scores. -/
theorem upto_load (M : Memref sig .tc .vmem S32768x256 .f32) (f : BufTy.Contents (Elt Ideal) M.view.ty) (off : Fin 2 → ℕ)
    (inb) (n N : ℕ) (ho : off = ![n, 0]) (hn : n + 256 ≤ N) (h : Upto Y N (M.view.read (Elt Ideal) f)) :
    Blk Y n (View.readAt (Elt Ideal) M.view (Rect.unit (s := S32768x256) off S256x256.size inb).toLoadRect f) := by
  subst ho
  intro k
  idx_vars k
  refine (h _ ?_).trans (congrArg₂ Y ?_ ?_)
  · show n + 1 * k0.val < N; omega
  · show n + 1 * k0.val = n + k0.val; omega
  · show 0 + 1 * k1.val = k1.val; omega

/-- A whole-buffer store leaves its payload. -/
theorem write_whole {a b : ℕ} {sp : Space} (M : Memref sig .tc sp ⟨2, ![a, b]⟩ .f32) (f : BufTy.Contents (Elt Ideal) M.view.ty)
    (inb) (w : (⟨2, ![a, b]⟩ : Shape).Idx → EReal) :
    M.view.read (Elt Ideal) (M.view.writes (Elt Ideal) f [⟨Rect.unit (s := ⟨2, ![a, b]⟩) ![0, 0] (Shape.size ⟨2, ![a, b]⟩) inb, w⟩]) = w := by
  funext k
  refine View.read_writes_cons_hit_of_coords M.view f (Rect.unit (s := ⟨2, ![a, b]⟩) ![0, 0] (Shape.size ⟨2, ![a, b]⟩) inb) w [] k k (fun x => ?_)
  match x with
  | ⟨0, _⟩ => show (k 0).val = 0 + 1 * (k 0).val; omega
  | ⟨1, _⟩ => show (k 1).val = 0 + 1 * (k 1).val; omega

/-- A whole-buffer load reads the contents. -/
theorem load_whole {a b : ℕ} {e : EltTy} {sp : Space} (M : Memref sig .tc sp ⟨2, ![a, b]⟩ e) (f : BufTy.Contents (Elt Ideal) M.view.ty) (inb) :
    View.readAt (Elt Ideal) M.view (Rect.unit (s := ⟨2, ![a, b]⟩) ![0, 0] (Shape.size ⟨2, ![a, b]⟩) inb).toLoadRect f = M.view.read (Elt Ideal) f := by
  funext k
  refine congrArg (M.view.read (Elt Ideal) f) (funext fun x => Fin.ext ?_)
  match x with
  | ⟨0, _⟩ => show 0 + 1 * (k 0).val = (k 0).val; omega
  | ⟨1, _⟩ => show 0 + 1 * (k 1).val = (k 1).val; omega

/-- Loading part of a matrix from row `n` and column `l` on. -/
theorem load_part {a b a' b' : ℕ} {sp : Space} (M : Memref sig .tc sp ⟨2, ![a, b]⟩ .fp8e4m3) (f : BufTy.Contents (Elt Ideal) M.view.ty)
    (off : Fin 2 → ℕ) (inb) (n l : ℕ) (ho : off = ![n, l]) (r c : ℕ) (hr : r < a') (hc : c < b') :
    at2 (a := a') (b := b') (View.readAt (Elt Ideal) M.view (Rect.unit (s := ⟨2, ![a, b]⟩) off (Shape.size ⟨2, ![a', b']⟩) inb).toLoadRect f) r c
      = at2 (a := a) (b := b) (M.view.read (Elt Ideal) f) (n + r) (l + c) := by
  subst ho
  have h0 : n + a' ≤ a := inb 0
  have h1 : l + b' ≤ b := inb 1
  rw [at2_mk _ r c hr hc, at2_mk _ (n + r) (l + c) (by omega) (by omega)]
  refine congrArg (M.view.read (Elt Ideal) f) (funext fun x => Fin.ext ?_)
  match x with
  | ⟨0, _⟩ => show n + 1 * r = n + r; omega
  | ⟨1, _⟩ => show l + 1 * c = l + c; omega

/-- Loading 256 columns of the values. -/
theorem load_cols (M : Memref sig .tc .vmem S128x32768 .fp8e4m3) (f : BufTy.Contents (Elt Ideal) M.view.ty) (off : Fin 2 → ℕ) (inb) (n : ℕ)
    (ho : off = ![0, n]) (k : S128x256.Idx) :
    View.readAt (Elt Ideal) M.view (Rect.unit (s := S128x32768) off S128x256.size inb).toLoadRect f k
      = at2 (a := 128) (b := 32768) (M.view.read (Elt Ideal) f) (k 0).val (n + (k 1).val) := by
  idx_vars k
  have h := load_part (a := 128) (b := 32768) (a' := 128) (b' := 256) M f off inb 0 n ho k0.val k1.val k0.isLt k1.isLt
  rw [Nat.zero_add] at h
  exact (at2_mk (a := 128) (b := 256) _ _ _ k0.isLt k1.isLt).symm.trans h

/-- Loading one scalar of a row. -/
theorem load_scalar {a : ℕ} {sp : Space} (M : Memref sig .tc sp ⟨3, ![1, 1, a]⟩ .f32) (f : BufTy.Contents (Elt Ideal) M.view.ty)
    (off : Fin 3 → ℕ) (inb) (n : ℕ) (ho : off = ![0, 0, n]) (h : 0 < S1x1x1.numel) :
    View.readAt (Elt Ideal) M.view (Rect.unit (s := ⟨3, ![1, 1, a]⟩) off S1x1x1.size inb).toLoadRect f (Shape.Idx.first h)
      = at1 (a := a) (M.view.read (Elt Ideal) f) n := by
  subst ho
  have h0 : n + 1 ≤ a := inb 2
  rw [at1_mk _ n (by omega)]
  refine congrArg (M.view.read (Elt Ideal) f) (funext fun x => Fin.ext ?_)
  match x with
  | ⟨0, _⟩ => rfl
  | ⟨1, _⟩ => rfl
  | ⟨2, _⟩ => rfl

end Groups

/-! ## The scores -/

section Scores

variable (t : ℕ) (a : FVec Ideal S1x256 .f32) (ks : S1x1x512.Idx → EReal) (q : FVec Ideal S256x128 .fp8e4m3) (x : S32768x128.Idx → EReal)

/-- The block holds the raw scores of the key rows from `n` on. -/
def Raw {m : ℕ} (n : ℕ) (s : (⟨2, ![m, 256]⟩ : Shape).Idx → EReal) : Prop := ∀ k, s k = rawScore q x (n + (k 0).val) (k 1).val

/-- The product of 256 key rows with the query tile. -/
theorem raw256 (n : ℕ) (y : FVec Ideal S256x128 .fp8e4m3) (q' : FVec Ideal S256x128 .fp8e4m3) (hq : q' = q) (hy : ∀ r d : ℕ, r < 256 → d < 128 → at2 y r d = at2 x (n + r) d) :
    Raw q x n (matmul dot_S256x128_S256x128_S256x256_1_1_0_0_n_n none y q' (constant S256x256 .f32 0x00000000#32) : FVec Ideal S256x256 .f32) := by
  subst hq
  intro k
  idx_vars k
  pointwise
  unfold rawScore
  refine Finset.sum_congr rfl fun d _ => ?_
  rw [← hy _ _ k0.isLt d.isLt, at2_mk y _ _ k0.isLt d.isLt, at2_mk q' _ _ k1.isLt d.isLt]

/-- The product of 1024 key rows with the query tile. -/
theorem raw1024 (n : ℕ) (y : FVec Ideal S1024x128 .fp8e4m3) (q' : FVec Ideal S256x128 .fp8e4m3) (hq : q' = q) (hy : ∀ r d : ℕ, r < 1024 → d < 128 → at2 y r d = at2 x (n + r) d) :
    Raw q x n (matmul dot_S1024x128_S256x128_S1024x256_1_1_0_0_n_n none y q' (constant S1024x256 .f32 0x00000000#32) : FVec Ideal S1024x256 .f32) := by
  subst hq
  intro k
  idx_vars k
  pointwise
  unfold rawScore
  refine Finset.sum_congr rfl fun d _ => ?_
  rw [← hy _ _ k0.isLt d.isLt, at2_mk y _ _ k0.isLt d.isLt, at2_mk q' _ _ k1.isLt d.isLt]

/-- A group of a block of 256 score rows wholly before the query tile. -/
theorem grp256 (n₀ j : ℕ) (s : FVec Ideal S256x256 .f32) (κs : Ideal .f32) (o : ℕ)
    (hs : S256x256.Slices ![o, 0] S64x256) (hb : S1x256.Broadcasts S64x256) (ho : o = 64 * j) (hn : n₀ + 256 ≤ 256 * t)
    (hy : Raw q x n₀ s) (hκ : κs = at1 ks ((n₀ + 64 * j) / 64)) (h64 : 64 ∣ n₀) :
    Grp (scoreY t a ks q x) (n₀ + 64 * j)
      (mulf (extractStridedSlice S64x256 ![o, 0] s hs) (broadcastTo S64x256 (mulf a (broadcast S1x256 κs)) hb)) := by
  intro k
  have h : o + 64 ≤ 256 := hs.2 0
  idx_vars k
  subst ho hκ
  pointwise
  rw [hy]
  show rawScore q x (n₀ + (64 * j + k0.val)) k1.val * _ = scoreY t a ks q x (n₀ + 64 * j + k0.val) k1.val
  unfold scoreY
  rw [if_pos (by omega), at2_mk a 0 k1.val (by norm_num) k1.isLt, show (n₀ + 64 * j + k0.val) / 64 = (n₀ + 64 * j) / 64 by omega, Nat.add_assoc]
  rfl

/-- A group of a block of 1024 score rows wholly before the query tile. -/
theorem grp1024 (n₀ j : ℕ) (s : FVec Ideal S1024x256 .f32) (κs : Ideal .f32) (o : ℕ)
    (hs : S1024x256.Slices ![o, 0] S64x256) (hb : S1x256.Broadcasts S64x256) (ho : o = 64 * j) (hn : n₀ + 1024 ≤ 256 * t)
    (hy : Raw q x n₀ s) (hκ : κs = at1 ks ((n₀ + 64 * j) / 64)) (h64 : 64 ∣ n₀) :
    Grp (scoreY t a ks q x) (n₀ + 64 * j)
      (mulf (extractStridedSlice S64x256 ![o, 0] s hs) (broadcastTo S64x256 (mulf a (broadcast S1x256 κs)) hb)) := by
  intro k
  have h : o + 64 ≤ 1024 := hs.2 0
  idx_vars k
  subst ho hκ
  pointwise
  rw [hy]
  show rawScore q x (n₀ + (64 * j + k0.val)) k1.val * _ = scoreY t a ks q x (n₀ + 64 * j + k0.val) k1.val
  unfold scoreY
  rw [if_pos (by omega), at2_mk a 0 k1.val (by norm_num) k1.isLt, show (n₀ + 64 * j + k0.val) / 64 = (n₀ + 64 * j) / 64 by omega, Nat.add_assoc]
  rfl

/-- A group of the diagonal block: its scores kept on and after the diagonal, the rest at minus infinity. -/
theorem grpDiag (j : ℕ) (s : FVec Ideal S256x256 .f32) (κs : Ideal .f32) (o : ℕ)
    (hs : S256x256.Slices ![o, 0] S64x256) (hb : S1x256.Broadcasts S64x256) (ho : o = 64 * j)
    (h0 : S64x256.Iotas .tc 32 [0]) (h1 : S64x256.Iotas .tc 32 [1])
    (hy : Raw q x (256 * t) s) (hκ : κs = at1 ks ((256 * t + 64 * j) / 64)) :
    Grp (scoreY t a ks q x) (256 * t + 64 * j)
      (select (cmpi .sle (addi (iota .tc S64x256 32 [0] h0) (broadcast S64x256 (BitVec.ofNat 32 o))) (iota .tc S64x256 32 [1] h1))
        (mulf (extractStridedSlice S64x256 ![o, 0] s hs) (broadcastTo S64x256 (mulf a (broadcast S1x256 κs)) hb))
        (broadcast S64x256 (Scalar.ofBits (F := Ideal) .f32 0xFF800000#32))) := by
  intro k
  have h : o + 64 ≤ 256 := hs.2 0
  idx_vars k
  subst ho hκ
  pointwise
  rw [hy, ofBits_neg_inf, WordCmp.addi_ofNat, WordCmp.cmpi_sle_ofNat (by norm_num; omega) (by norm_num; omega), WordCmp.select_ofBool]
  show _ = scoreY t a ks q x (256 * t + 64 * j + k0.val) k1.val
  unfold scoreY
  simp only [decide_eq_true_eq]
  refine if_ctx_congr (by omega) (fun _ => ?_) fun _ => rfl
  show rawScore q x (256 * t + (64 * j + k0.val)) k1.val * _ = _
  rw [at2_mk a 0 k1.val (by norm_num) k1.isLt, show (256 * t + 64 * j + k0.val) / 64 = (256 * t + 64 * j) / 64 by omega, Nat.add_assoc]
  rfl

end Scores

/-! ## The weights -/

/-- The weight of key row `r` for query row `c`: the power of two of the score less the column's shift. -/
def weightP (Y : ℕ → ℕ → EReal) (v : S1x256.Idx → EReal) (r c : ℕ) : EReal := Ideal.exp2 (Y r c - at2 v 0 c)

theorem weight_block (Y : ℕ → ℕ → EReal) (n : ℕ) (y : FVec Ideal S256x256 .f32) (v : FVec Ideal S1x256 .f32) (hb : S1x256.Broadcasts S256x256)
    (hy : Blk Y n y) : Blk (weightP Y v) n (exp2 (subf y (broadcastTo S256x256 v hb))) := by
  intro k
  unfold weightP
  rw [← hy]
  idx_vars k
  rw [at2_mk v 0 _ (by norm_num) (Fin.isLt _)]
  pointwise
  rfl

/-! ## The other payloads -/

/-- The query scales, twice 128 columns. -/
theorem scales_apply (a b : Ideal .f32) (c : ℕ) (hc : c < 256) :
    at2 (k0_pay142 (F := Ideal) a b) 0 c = (if c < 128 then a else b) * (((Real.log 2)⁻¹ * (Real.sqrt 128)⁻¹ : ℝ) : EReal) := by
  rw [at2_mk _ 0 c (by norm_num) hc]
  pointwise [k0_pay142]
  have e : Named.named (F := Ideal) (φ := .f32) κ "scale" 0x3E0293EE#32 = (((Real.log 2)⁻¹ * (Real.sqrt 128)⁻¹ : ℝ) : EReal) :=
    IdealRules.named_const.ideal_named_scalar _ _ _ _ rfl
  rw [e]
  split <;> rfl

/-- The exponent shift of a column: its maximum less the exponent of the largest code. -/
theorem shift_apply (Y : ℕ → ℕ → EReal) (N : ℕ) (m : FVec Ideal S8x256 .f32)
    (hm : Mx Y N m) (c : ℕ) (hc : c < 256) :
    at2 (k0_pay167 (F := Ideal) m) 0 c
      = ((Finset.range (8 * N)).sup fun r => Y r c) - (((Real.log 448) * (Real.log 2)⁻¹ : ℝ) : EReal) := by
  rw [at2_mk _ 0 c (by norm_num) hc]
  pointwise [k0_pay167]
  have e : Named.named (F := Ideal) (φ := .f32) κ "log2_max" 0x410CEAED#32 = (((Real.log 448) * (Real.log 2)⁻¹ : ℝ) : EReal) :=
    IdealRules.named_const.ideal_named_scalar _ _ _ _ rfl
  rw [e, ofBits_neg_inf, fold_max_eq, ← sup_by_eight]
  exact congrArg (· - _) (Finset.sup_congr rfl fun a _ => hm _)

/-- The block written: each weighted value over its row's sum, times the value scale. -/
theorem out_apply (N : ℕ) (P v : ℕ → ℕ → EReal) (l : FVec Ideal S8x256 .f32) (o : FVec Ideal S128x256 .f32) (s : FVec Ideal S1x1x128 .f32)
    (hl : Sm P N l) (ho : Pt P v 0 (8 * N) o) (k : S256x128.Idx) :
    k0_pay15 (F := Ideal) l o s k
      = Ideal.div (∑ r ∈ Finset.range (8 * N), v (k 1).val r * min (P r (k 0).val) 448) (∑ r ∈ Finset.range (8 * N), P r (k 0).val)
          * at1 s (k 1).val := by
  idx_vars k
  pointwise [k0_pay15]
  rw [← sum_by_eight (fun r => P r k0.val), at1_mk s _ k1.isLt, ho, Finset.sum_congr rfl fun a _ => hl _]
  simp only [Nat.zero_add]
  rfl

theorem start_max (k : S8x256.Idx) : k0_pay143 (F := Ideal) k = (⊥ : EReal) := by
  pointwise [k0_pay143]
  exact ofBits_neg_inf
theorem start_sum (k : S8x256.Idx) : k0_pay144 (F := Ideal) (Scalar.ofBits .f32 0x00000000#32) k = (0 : EReal) := by
  pointwise [k0_pay144]
theorem start_out (k : S128x256.Idx) : k0_pay145 (F := Ideal) k = (0 : EReal) := by
  pointwise [k0_pay145]

end Cert.Proof.KernelIdeal
end
-- ==== Proof.ScoreLoops.lean ====
/-
  The two score loops over the extended reals: each trip stores the next block of score rows and updates the running
  maximum. After a loop the rows before it and its own rows hold the scores, and the running maximum covers them.
-/
module

public import proofs.«01_k».proof.Proof.OffsetsIdeal
public import proofs.«01_k».proof.Proof.KernelOps
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev UU (nD : Nat) (τ : Topo) : Type := UR sig nD τ
abbrev 𝒱₀ : Variants := Variants.none
local notation "𝕄" => MT nD τ sig Unit (Elt Ideal) ℕ (UU nD τ) ℕ

/-- A memref's elements held at contents `f`. -/
abbrev pt (c : Dev nD) {sp : Space} {S : Shape} {e : EltTy} (M : Memref sig .tc sp S e) (f : BufTy.Contents (Elt Ideal) M.view.ty) : sProp 𝕄 :=
  M.view.loc (c : Thread nD τ) ↦[M.view.set]{fullShare} f

/-- What the buffer at contents `f` holds. -/
abbrev rd {sp : Space} {S : Shape} {e : EltTy} (M : Memref sig .tc sp S e) (f : BufTy.Contents (Elt Ideal) M.view.ty) : S.Idx → Elt Ideal e :=
  M.view.read (Elt Ideal) f

section Loops

variable (c : Dev nD) (i : grid0.Coords)
  (arg4 : Memref sig .tc .smem S1x1x256 .f32) (harg4 : arg4.IsWhole)
  (arg5 : Memref sig .tc .smem S1x1x512 .f32) (harg5 : arg5.IsWhole)
  (arg6 : Memref sig .tc .vmem S256x128 .fp8e4m3) (harg6 : arg6.IsWhole)
  (arg7 : Memref sig .tc .vmem S32768x128 .fp8e4m3) (harg7 : arg7.IsWhole)
  (arg8 : Memref sig .tc .vmem S128x32768 .fp8e4m3) (harg8 : arg8.IsWhole)
  (arg9 : Memref sig .tc .vmem S1x8x128 .f32) (harg9 : arg9.IsWhole)
  (arg10 : Memref sig .tc .vmem S256x128 .bf16) (harg10 : arg10.IsWhole)
  (arg11 : Memref sig .tc .vmem S32768x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S128x256 .f32) (harg14 : arg14.IsWhole)

/-- After `8 * N` rows: the three inputs at their contents, those rows of the score buffer the scores `Y`, the running
    maximum over them. -/
def scoreInv (Y : ℕ → ℕ → EReal) (N : ℕ) (f5 : BufTy.Contents (Elt Ideal) arg5.view.ty) (f6 : BufTy.Contents (Elt Ideal) arg6.view.ty)
    (f7 : BufTy.Contents (Elt Ideal) arg7.view.ty) : sProp 𝕄 :=
  iprop(pt c arg5 f5 ∗ pt c arg6 f6 ∗ pt c arg7 f7 ∗ (∃ f, ⌜Upto Y (8 * N) (rd arg11 f)⌝ ∗ pt c arg11 f)
    ∗ (∃ f, ⌜Mx Y N (rd arg12 f)⌝ ∗ pt c arg12 f))

/-- One trip of the score loop over 1024-row blocks. -/
theorem t1_step (a3 v16 : BitVec 32) (z : Ideal .f32) (v29 : FVec Ideal S1x256 .f32)
    (f5 : BufTy.Contents (Elt Ideal) arg5.view.ty) (f6 : BufTy.Contents (Elt Ideal) arg6.view.ty) (f7 : BufTy.Contents (Elt Ideal) arg7.view.ty)
    (k : Fin (k0_t1_loop i).trips) :
    scoreInv c arg5 arg6 arg7 arg11 arg12 (scoreY (qt i) v29 (rd arg5 f5) (rd arg6 f6) (rd arg7 f7)) (128 * k.val) f5 f6 f7
    ⊢ wp frame (wpE (defs₀ (F := Ideal)) 𝒱₀ c none) Set.univ
      (k0_t1_body (F := Ideal) i arg4 harg4 arg5 harg5 arg6 harg6 arg7 harg7 arg8 harg8 arg9 harg9 arg10 harg10 arg11 harg11 arg12 harg12 arg13 harg13 arg14 harg14 a3 v16 v29 z k ())
      (fun _ => scoreInv c arg5 arg6 arg7 arg11 arg12 (scoreY (qt i) v29 (rd arg5 f5) (rd arg6 f6) (rd arg7 f7)) (128 * (k.val + 1)) f5 f6 f7) := by
  unfold scoreInv k0_t1_body
  iintro ⟨H5, H6, H7, ⟨%f11, %h11, H11⟩, ⟨%f12, %h12, H12⟩⟩
  have hk : k.val < qt i / 4 := lt_of_lt_of_eq k.isLt (trips1 i)
  generalize hN : 128 * k.val = N at *
  have g := fun (j o : ℕ) (s : FVec Ideal S1024x256 .f32) (κs : Ideal .f32) (hs : S1024x256.Slices ![o, 0] S64x256) (hb : S1x256.Broadcasts S64x256)
      (ho : o = 64 * j) (hw : Raw (rd arg6 f6) (rd arg7 f7) (8 * N) s)
      (hκ : κs = at1 (a := 512) (rd arg5 f5) (16 * k.val + j)) =>
    grp1024 (qt i) v29 (rd arg5 f5) _ (rd arg7 f7) (8 * N) j s κs o hs hb ho (by omega) hw (hκ.trans (by congr 1; omega)) (by omega)
  generalize scoreY (qt i) v29 (rd arg5 f5) (rd arg6 f6) (rd arg7 f7) = Y at *
  sl_exec
  sl_step
  isplitl [H5]; · iexact H5
  isplitl [H6]; · iexact H6
  isplitl [H7]; · iexact H7
  have w := fun (r : Fin 16) => (off4_eq i k r).trans (show _ = ![8 * N + 64 * r.val, 0] by rw [← hN]; congr 1; omega)
  have l := fun (r : Fin 16) => load_scalar arg5 f5 (k0_off3 i k (BitVec.ofNat 32 r.val)) (k0_off3_inb i k r) _ (off3_eq i k r)
  have hv : Raw (rd arg6 f6) (rd arg7 f7) (8 * N) (t1_step.sl.v258 i arg6 arg7 f6 f7 k) := by
    delta t1_step.sl.v258 t1_step.sl.cst_122
    exact raw1024 (rd arg6 f6) (rd arg7 f7) (8 * N) _ _ (load_whole arg6 f6 inb_S256x128_S256x128_0_0) (fun r d hr hd => by
      have := load_part (a' := 1024) (b' := 128) arg7 f7 (k0_off2 i k) (k0_off2_inb i k) _ _ (off2_eq i k) r d hr hd
      rw [Nat.zero_add] at this
      exact this.trans (by rw [show 1024 * k.val = 8 * N by omega]))
  isplitl [H11]
  · iexists _; isplitr; swap; · iexact H11
    ipureintro
    rw [show 8 * (128 * (k.val + 1)) = 8 * N + 64 * 16 by omega]
    refine upto_step Y arg11 f11 _ _ _ _ _ (8 * N) 15 (w 15) ?_ (g 15 960 _ _ _ _ rfl hv (l 15 _))
    refine upto_step Y arg11 f11 _ _ _ _ _ (8 * N) 14 (w 14) ?_ (g 14 896 _ _ _ _ rfl hv (l 14 _))
    refine upto_step Y arg11 f11 _ _ _ _ _ (8 * N) 13 (w 13) ?_ (g 13 832 _ _ _ _ rfl hv (l 13 _))
    refine upto_step Y arg11 f11 _ _ _ _ _ (8 * N) 12 (w 12) ?_ (g 12 768 _ _ _ _ rfl hv (l 12 _))
    refine upto_step Y arg11 f11 _ _ _ _ _ (8 * N) 11 (w 11) ?_ (g 11 704 _ _ _ _ rfl hv (l 11 _))
    refine upto_step Y arg11 f11 _ _ _ _ _ (8 * N) 10 (w 10) ?_ (g 10 640 _ _ _ _ rfl hv (l 10 _))
    refine upto_step Y arg11 f11 _ _ _ _ _ (8 * N) 9 (w 9) ?_ (g 9 576 _ _ _ _ rfl hv (l 9 _))
    refine upto_step Y arg11 f11 _ _ _ _ _ (8 * N) 8 (w 8) ?_ (g 8 512 _ _ _ _ rfl hv (l 8 _))
    refine upto_step Y arg11 f11 _ _ _ _ _ (8 * N) 7 (w 7) ?_ (g 7 448 _ _ _ _ rfl hv (l 7 _))
    refine upto_step Y arg11 f11 _ _ _ _ _ (8 * N) 6 (w 6) ?_ (g 6 384 _ _ _ _ rfl hv (l 6 _))
    refine upto_step Y arg11 f11 _ _ _ _ _ (8 * N) 5 (w 5) ?_ (g 5 320 _ _ _ _ rfl hv (l 5 _))
    refine upto_step Y arg11 f11 _ _ _ _ _ (8 * N) 4 (w 4) ?_ (g 4 256 _ _ _ _ rfl hv (l 4 _))
    refine upto_step Y arg11 f11 _ _ _ _ _ (8 * N) 3 (w 3) ?_ (g 3 192 _ _ _ _ rfl hv (l 3 _))
    refine upto_step Y arg11 f11 _ _ _ _ _ (8 * N) 2 (w 2) ?_ (g 2 128 _ _ _ _ rfl hv (l 2 _))
    refine upto_step Y arg11 f11 _ _ _ _ _ (8 * N) 1 (w 1) ?_ (g 1 64 _ _ _ _ rfl hv (l 1 _))
    refine upto_step Y arg11 f11 _ _ _ _ _ (8 * N) 0 (w 0) ?_ (g 0 0 _ _ _ _ rfl hv (l 0 _))
    exact h11
  iexists _; isplitr; swap; · iexact H12
  ipureintro
  rw [show 128 * (k.val + 1) = N + 8 * 16 by omega]
  rw [show rd arg12 _ = _ from write_whole arg12 f12 _ _]
  refine mx_cast Y _ _ _ ?_
  refine max_step Y N 15 _ _ _ _ _ ?_ (g 15 960 _ _ _ _ rfl hv (l 15 _))
  refine max_step Y N 14 _ _ _ _ _ ?_ (g 14 896 _ _ _ _ rfl hv (l 14 _))
  refine max_step Y N 13 _ _ _ _ _ ?_ (g 13 832 _ _ _ _ rfl hv (l 13 _))
  refine max_step Y N 12 _ _ _ _ _ ?_ (g 12 768 _ _ _ _ rfl hv (l 12 _))
  refine max_step Y N 11 _ _ _ _ _ ?_ (g 11 704 _ _ _ _ rfl hv (l 11 _))
  refine max_step Y N 10 _ _ _ _ _ ?_ (g 10 640 _ _ _ _ rfl hv (l 10 _))
  refine max_step Y N 9 _ _ _ _ _ ?_ (g 9 576 _ _ _ _ rfl hv (l 9 _))
  refine max_step Y N 8 _ _ _ _ _ ?_ (g 8 512 _ _ _ _ rfl hv (l 8 _))
  refine max_step Y N 7 _ _ _ _ _ ?_ (g 7 448 _ _ _ _ rfl hv (l 7 _))
  refine max_step Y N 6 _ _ _ _ _ ?_ (g 6 384 _ _ _ _ rfl hv (l 6 _))
  refine max_step Y N 5 _ _ _ _ _ ?_ (g 5 320 _ _ _ _ rfl hv (l 5 _))
  refine max_step Y N 4 _ _ _ _ _ ?_ (g 4 256 _ _ _ _ rfl hv (l 4 _))
  refine max_step Y N 3 _ _ _ _ _ ?_ (g 3 192 _ _ _ _ rfl hv (l 3 _))
  refine max_step Y N 2 _ _ _ _ _ ?_ (g 2 128 _ _ _ _ rfl hv (l 2 _))
  refine max_step Y N 1 _ _ _ _ _ ?_ (g 1 64 _ _ _ _ rfl hv (l 1 _))
  refine max_step Y N 0 _ _ _ _ _ ?_ (g 0 0 _ _ _ _ rfl hv (l 0 _))
  delta t1_step.sl.r_1
  rw [load_whole]
  exact h12

/-- One trip of the score loop over 256-row blocks. -/
theorem t3_step (a3 v16 : BitVec 32) (z : Ideal .f32) (v29 : FVec Ideal S1x256 .f32) (v47 : BitVec 32)
    (f5 : BufTy.Contents (Elt Ideal) arg5.view.ty) (f6 : BufTy.Contents (Elt Ideal) arg6.view.ty) (f7 : BufTy.Contents (Elt Ideal) arg7.view.ty)
    (k : Fin (k0_t3_loop i).trips) :
    scoreInv c arg5 arg6 arg7 arg11 arg12 (scoreY (qt i) v29 (rd arg5 f5) (rd arg6 f6) (rd arg7 f7)) (32 * (4 * (qt i / 4) + k.val)) f5 f6 f7
    ⊢ wp frame (wpE (defs₀ (F := Ideal)) 𝒱₀ c none) Set.univ
      (k0_t3_body (F := Ideal) i arg4 harg4 arg5 harg5 arg6 harg6 arg7 harg7 arg8 harg8 arg9 harg9 arg10 harg10 arg11 harg11 arg12 harg12 arg13 harg13 arg14 harg14 a3 v16 v29 z v47 k ())
      (fun _ => scoreInv c arg5 arg6 arg7 arg11 arg12 (scoreY (qt i) v29 (rd arg5 f5) (rd arg6 f6) (rd arg7 f7)) (32 * (4 * (qt i / 4) + (k.val + 1))) f5 f6 f7) := by
  unfold scoreInv k0_t3_body
  iintro ⟨H5, H6, H7, ⟨%f11, %h11, H11⟩, ⟨%f12, %h12, H12⟩⟩
  have hk : k.val < qt i % 4 := lt_of_lt_of_eq k.isLt (trips3 i)
  generalize hN : 32 * (4 * (qt i / 4) + k.val) = N at *
  have g := fun (j o : ℕ) (s : FVec Ideal S256x256 .f32) (κs : Ideal .f32) (hs : S256x256.Slices ![o, 0] S64x256) (hb : S1x256.Broadcasts S64x256)
      (ho : o = 64 * j) (hw : Raw (rd arg6 f6) (rd arg7 f7) (8 * N) s)
      (hκ : κs = at1 (a := 512) (rd arg5 f5) (4 * (4 * (qt i / 4) + k.val) + j)) =>
    grp256 (qt i) v29 (rd arg5 f5) _ (rd arg7 f7) (8 * N) j s κs o hs hb ho (by omega) hw (hκ.trans (by congr 1; omega)) (by omega)
  generalize scoreY (qt i) v29 (rd arg5 f5) (rd arg6 f6) (rd arg7 f7) = Y at *
  sl_exec
  sl_step
  isplitl [H5]; · iexact H5
  isplitl [H6]; · iexact H6
  isplitl [H7]; · iexact H7
  have w := fun (r : Fin 4) => (off10_eq i k r).trans (show _ = ![8 * N + 64 * r.val, 0] by rw [← hN]; congr 1; omega)
  have l := fun (r : Fin 4) => load_scalar arg5 f5 (k0_off9 i k (BitVec.ofNat 32 r.val)) (k0_off9_inb i k r) _ (off9_eq i k r)
  have hv : Raw (rd arg6 f6) (rd arg7 f7) (8 * N) (t3_step.sl.v258 i arg6 arg7 f6 f7 k) := by
    delta t3_step.sl.v258 t3_step.sl.cst_123
    exact raw256 (rd arg6 f6) (rd arg7 f7) (8 * N) _ _ (load_whole arg6 f6 inb_S256x128_S256x128_0_0) (fun r d hr hd => by
      have := load_part (a' := 256) (b' := 128) arg7 f7 (k0_off8 i k) (k0_off8_inb i k) _ _ (off8_eq i k) r d hr hd
      rw [Nat.zero_add] at this
      exact this.trans (by rw [show 256 * (4 * (qt i / 4) + k.val) = 8 * N by omega]))
  isplitl [H11]
  · iexists _; isplitr; swap; · iexact H11
    ipureintro
    rw [show 8 * (32 * (4 * (qt i / 4) + (k.val + 1))) = 8 * N + 64 * 4 by omega]
    refine upto_step Y arg11 f11 _ _ _ _ _ (8 * N) 3 (w 3) ?_ (g 3 192 _ _ _ _ rfl hv (l 3 _))
    refine upto_step Y arg11 f11 _ _ _ _ _ (8 * N) 2 (w 2) ?_ (g 2 128 _ _ _ _ rfl hv (l 2 _))
    refine upto_step Y arg11 f11 _ _ _ _ _ (8 * N) 1 (w 1) ?_ (g 1 64 _ _ _ _ rfl hv (l 1 _))
    refine upto_step Y arg11 f11 _ _ _ _ _ (8 * N) 0 (w 0) ?_ (g 0 0 _ _ _ _ rfl hv (l 0 _))
    exact h11
  iexists _; isplitr; swap; · iexact H12
  ipureintro
  rw [show 32 * (4 * (qt i / 4) + (k.val + 1)) = N + 8 * 4 by omega]
  rw [show rd arg12 _ = _ from write_whole arg12 f12 _ _]
  refine mx_cast Y _ _ _ ?_
  refine max_step Y N 3 _ _ _ _ _ ?_ (g 3 192 _ _ _ _ rfl hv (l 3 _))
  refine max_step Y N 2 _ _ _ _ _ ?_ (g 2 128 _ _ _ _ rfl hv (l 2 _))
  refine max_step Y N 1 _ _ _ _ _ ?_ (g 1 64 _ _ _ _ rfl hv (l 1 _))
  refine max_step Y N 0 _ _ _ _ _ ?_ (g 0 0 _ _ _ _ rfl hv (l 0 _))
  delta t3_step.sl.r_1
  rw [load_whole]
  exact h12

end Loops

end Cert.Proof.KernelIdeal

end
-- ==== Proof.WeightLoops.lean ====
/-
  The two weight loops over the extended reals: each trip adds its rows' weights to the running sum and their weighted values
  to the running result.
-/
module

public import proofs.«01_k».proof.Proof.ScoreLoops

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

section Loops

variable (c : Dev nD) (i : grid0.Coords)
  (arg4 : Memref sig .tc .smem S1x1x256 .f32) (harg4 : arg4.IsWhole)
  (arg5 : Memref sig .tc .smem S1x1x512 .f32) (harg5 : arg5.IsWhole)
  (arg6 : Memref sig .tc .vmem S256x128 .fp8e4m3) (harg6 : arg6.IsWhole)
  (arg7 : Memref sig .tc .vmem S32768x128 .fp8e4m3) (harg7 : arg7.IsWhole)
  (arg8 : Memref sig .tc .vmem S128x32768 .fp8e4m3) (harg8 : arg8.IsWhole)
  (arg9 : Memref sig .tc .vmem S1x8x128 .f32) (harg9 : arg9.IsWhole)
  (arg10 : Memref sig .tc .vmem S256x128 .bf16) (harg10 : arg10.IsWhole)
  (arg11 : Memref sig .tc .vmem S32768x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S128x256 .f32) (harg14 : arg14.IsWhole)

/-- After `8 * N` rows: the values and the scores at their contents, the running sum of the weights over those rows, the
    running result their weighted values. -/
def weightInv (Y : ℕ → ℕ → EReal) (v : FVec Ideal S1x256 .f32) (N : ℕ) (f8 : BufTy.Contents (Elt Ideal) arg8.view.ty)
    (f11 : BufTy.Contents (Elt Ideal) arg11.view.ty) : sProp 𝕄 :=
  iprop(pt c arg8 f8 ∗ pt c arg11 f11 ∗ (∃ f, ⌜Sm (weightP Y v) N (rd arg13 f)⌝ ∗ pt c arg13 f)
    ∗ (∃ f, ⌜Pt (weightP Y v) (at2 (rd arg8 f8)) 0 (8 * N) (rd arg14 f)⌝ ∗ pt c arg14 f))

/-- One trip of the weight loop over 1024 rows, in four blocks of 256. -/
theorem t5_step (Y : ℕ → ℕ → EReal) (v227 : FVec Ideal S1x256 .f32) (c0 : BitVec 32)
    (f8 : BufTy.Contents (Elt Ideal) arg8.view.ty) (f11 : BufTy.Contents (Elt Ideal) arg11.view.ty)
    (h11 : Upto Y (256 * (qt i + 1)) (rd arg11 f11)) (k : Fin (k0_t5_loop i).trips) :
    weightInv c arg8 arg11 arg13 arg14 Y v227 (128 * k.val) f8 f11
    ⊢ wp frame (wpE (defs₀ (F := Ideal)) 𝒱₀ c none) Set.univ
      (k0_t5_body (F := Ideal) i arg4 harg4 arg5 harg5 arg6 harg6 arg7 harg7 arg8 harg8 arg9 harg9 arg10 harg10 arg11 harg11 arg12 harg12 arg13 harg13 arg14 harg14 v227 c0 k ())
      (fun _ => weightInv c arg8 arg11 arg13 arg14 Y v227 (128 * (k.val + 1)) f8 f11) := by
  unfold weightInv k0_t5_body
  iintro ⟨H8, H11, ⟨%f13, %h13, H13⟩, ⟨%f14, %h14, H14⟩⟩
  have hk : k.val < qt i / 4 := lt_of_lt_of_eq k.isLt (trips5 i)
  have o1 := fun r : Fin 4 => (off17_eq i k r).trans (show _ = ![8 * (128 * k.val) + 256 * r.val, 0] by congr 1; omega)
  have o2 := fun r : Fin 4 => (off18_eq i k r).trans (show _ = ![0, 8 * (128 * k.val) + 256 * r.val] by congr 2; omega)
  generalize hN : 128 * k.val = N at *
  sl_exec
  sl_step
  isplitl [H8]; · iexact H8
  isplitl [H11]; · iexact H11
  have b := fun (r : Fin 4) (inb) => weight_block Y (8 * N + 256 * r.val) _ v227 broadcasts_S1x256_S256x256
    (upto_load Y arg11 f11 _ inb (8 * N + 256 * r.val) _ (o1 r) (by omega) h11)
  isplitl [H13]
  · iexists _; isplitr; swap; · iexact H13
    ipureintro
    rw [show rd arg13 _ = _ from write_whole arg13 f13 _ _, show 128 * (k.val + 1) = N + 32 * 4 by omega]
    refine sm_cast _ _ _ _ (sum_step _ N 3 _ _ _ _ _ ?_ (b 3 _))
    refine sum_step _ N 2 _ _ _ _ _ ?_ (b 2 _)
    refine sum_step _ N 1 _ _ _ _ _ ?_ (b 1 _)
    refine sum_step _ N 0 _ _ _ _ _ ?_ (b 0 _)
    rw [load_whole]
    exact h13
  iexists _; isplitr; swap; · iexact H14
  ipureintro
  rw [show rd arg14 _ = _ from write_whole arg14 f14 _ _, show 8 * (128 * (k.val + 1)) = 8 * N + (256 + 256 + 256 + 256) by omega]
  refine pt_cast _ _ _ _ _ _ (pt_add _ _ 0 _ _ _ _ ?_ ?_)
  · rw [load_whole]
    exact h14
  · rw [Nat.zero_add]
    refine pt_add _ _ _ _ _ _ _ ?_ (mul_block _ _ _ _ _ _ (load_cols arg8 f8 _ _ _ (o2 3)) (b 3 _))
    refine pt_add _ _ _ _ _ _ _ ?_ (mul_block _ _ _ _ _ _ (load_cols arg8 f8 _ _ _ (o2 2)) (b 2 _))
    refine pt_add _ _ _ _ _ _ _ ?_ (mul_block _ _ _ _ _ _ (load_cols arg8 f8 _ _ _ (o2 1)) (b 1 _))
    exact mul_block _ _ _ _ _ _ (load_cols arg8 f8 _ _ _ (o2 0)) (b 0 _)

/-- One trip of the weight loop over 256 rows. -/
theorem t7_step (Y : ℕ → ℕ → EReal) (v227 : FVec Ideal S1x256 .f32)
    (f8 : BufTy.Contents (Elt Ideal) arg8.view.ty) (f11 : BufTy.Contents (Elt Ideal) arg11.view.ty)
    (h11 : Upto Y (256 * (qt i + 1)) (rd arg11 f11)) (k : Fin (k0_t7_loop i).trips) :
    weightInv c arg8 arg11 arg13 arg14 Y v227 (32 * (4 * (qt i / 4) + k.val)) f8 f11
    ⊢ wp frame (wpE (defs₀ (F := Ideal)) 𝒱₀ c none) Set.univ
      (k0_t7_body (F := Ideal) i arg4 harg4 arg5 harg5 arg6 harg6 arg7 harg7 arg8 harg8 arg9 harg9 arg10 harg10 arg11 harg11 arg12 harg12 arg13 harg13 arg14 harg14 v227 k ())
      (fun _ => weightInv c arg8 arg11 arg13 arg14 Y v227 (32 * (4 * (qt i / 4) + (k.val + 1))) f8 f11) := by
  unfold weightInv k0_t7_body
  iintro ⟨H8, H11, ⟨%f13, %h13, H13⟩, ⟨%f14, %h14, H14⟩⟩
  have hk : k.val < qt i % 4 + 1 := lt_of_lt_of_eq k.isLt (trips7 i)
  have o1 := off21_eq i k
  have o2 := off22_eq i k
  generalize hN : 32 * (4 * (qt i / 4) + k.val) = N at *
  rw [show 256 * (4 * (qt i / 4) + k.val) = 8 * N by omega] at o1 o2
  sl_exec
  sl_step
  isplitl [H8]; · iexact H8
  isplitl [H11]; · iexact H11
  have b := fun (inb) => weight_block Y (8 * N) _ v227 broadcasts_S1x256_S256x256 (upto_load Y arg11 f11 _ inb (8 * N) _ o1 (by omega) h11)
  isplitl [H13]
  · iexists _; isplitr; swap; · iexact H13
    ipureintro
    rw [show rd arg13 _ = _ from write_whole arg13 f13 _ _, show 32 * (4 * (qt i / 4) + (k.val + 1)) = N + 32 * 1 by omega]
    refine sm_cast _ _ _ _ (sum_step _ N 0 _ _ _ _ _ ?_ (b _))
    rw [load_whole]
    exact h13
  iexists _; isplitr; swap; · iexact H14
  ipureintro
  rw [show rd arg14 _ = _ from write_whole arg14 f14 _ _, show 8 * (32 * (4 * (qt i / 4) + (k.val + 1))) = 8 * N + 256 by omega]
  refine pt_cast _ _ _ _ _ _ (pt_add _ _ 0 _ _ _ _ ?_ ?_)
  · rw [load_whole]
    exact h14
  · rw [Nat.zero_add]
    exact mul_block _ _ _ _ _ _ (load_cols arg8 f8 _ _ _ o2) (b _)

end Loops

end Cert.Proof.KernelIdeal

end
-- ==== Proof.RowMath.lean ====
/-
  The arithmetic of one query row over the extended reals: the kernel's base-2 softmax with shifted exponents and the
  reference's natural softmax with a quantisation scale give the same weighted average, for every row of scores.
-/
module

public import Idealize.ShloMosaic.PureOps.Ideal
public import Idealize.ShloMosaic.PureOps.Ideal.Laws
public import Mathlib.Analysis.SpecialFunctions.Pow.Real

@[expose] public section

noncomputable section

namespace Cert.Proof.RowMath

open Idealize.ShloMosaic

/-- The factor from natural to base-2 exponents. -/
def log2e : ℝ := (Real.log 2)⁻¹

/-- The exponent of the largest fp8 code. -/
def log2max : ℝ := Real.log 448 * (Real.log 2)⁻¹

theorem log2e_pos : 0 < log2e := inv_pos.mpr (Real.log_pos (by norm_num))

/-- What the kernel computes for one row from its scores `y`, its value column `v` and the value scale `s`. -/
def kernelRow (n : ℕ) (y v : ℕ → EReal) (s : EReal) : EReal :=
  Ideal.div (∑ r ∈ Finset.range n, v r * min (Ideal.exp2 (y r - ((Finset.range n).sup y - (log2max : EReal)))) 448)
    (∑ r ∈ Finset.range n, Ideal.exp2 (y r - ((Finset.range n).sup y - (log2max : EReal)))) * s

/-- What the reference computes for one row from its scores `x`, its value column `v` and the value scale `s`. -/
def referenceRow (n : ℕ) (x v : ℕ → EReal) (s : EReal) : EReal :=
  Ideal.div ((∑ r ∈ Finset.range n, min 448 (max 0 (Ideal.exp (x r - (Finset.range n).sup x) * 448)) * v r) * ((1 / 448 : ℝ) : EReal))
    (∑ r ∈ Finset.range n, Ideal.exp (x r - (Finset.range n).sup x)) * s

theorem mul_log2e_mono : Monotone fun x : EReal => x * (log2e : EReal) := fun _ _ h =>
  mul_le_mul_of_nonneg_right h (by exact_mod_cast log2e_pos.le)

theorem bot_mul_log2e : (⊥ : EReal) * (log2e : EReal) = ⊥ := EReal.bot_mul_coe_of_pos log2e_pos
theorem top_mul_log2e : (⊤ : EReal) * (log2e : EReal) = ⊤ := EReal.top_mul_coe_of_pos log2e_pos

/-- Rows past the visible ones do not change the maximum. -/
theorem sup_extend {n N : ℕ} (hn : n ≤ N) (x : ℕ → EReal) (hx : ∀ r, n ≤ r → x r = ⊥) :
    (Finset.range N).sup x = (Finset.range n).sup x := by
  apply le_antisymm
  · refine Finset.sup_le fun r hr => ?_
    by_cases h : r < n
    · exact Finset.le_sup (f := x) (Finset.mem_range.mpr h)
    · rw [hx r (by omega)]; exact bot_le
  · exact Finset.sup_mono (Finset.range_mono hn)

/-- Scaling the scores scales the maximum. -/
theorem sup_scale (n : ℕ) (x : ℕ → EReal) :
    (Finset.range n).sup (fun r => x r * (log2e : EReal)) = (Finset.range n).sup x * (log2e : EReal) :=
  (Finset.comp_sup_eq_sup_comp (fun x : EReal => x * (log2e : EReal)) (fun _ _ => mul_log2e_mono.map_sup _ _) bot_mul_log2e).symm

/-- The weight of one row against a finite maximum: a real in the unit interval, the kernel's being 448 times it. -/
theorem weight_eq (x : EReal) (μ : ℝ) (h : x ≤ (μ : EReal)) :
    ∃ ρ : ℝ, 0 ≤ ρ ∧ ρ ≤ 1 ∧ Ideal.exp (x - (μ : EReal)) = (ρ : EReal)
      ∧ Ideal.exp2 (x * (log2e : EReal) - ((μ : EReal) * (log2e : EReal) - (log2max : EReal))) = ((448 * ρ : ℝ) : EReal)
      ∧ (x = ⊥ → ρ = 0) ∧ (x = (μ : EReal) → ρ = 1) := by
  induction x with
  | bot =>
    refine ⟨0, le_rfl, zero_le_one, ?_, ?_, fun _ => rfl, fun h => ?_⟩
    · rw [EReal.bot_sub]; rfl
    · rw [bot_mul_log2e, EReal.bot_sub]; simp
    · exact absurd h.symm (EReal.coe_ne_bot μ)
  | top => exact absurd (top_le_iff.mp h) (EReal.coe_ne_top μ)
  | coe a =>
    have ha : a ≤ μ := by exact_mod_cast h
    refine ⟨Real.exp (a - μ), (Real.exp_pos _).le, Real.exp_le_one_iff.mpr (by linarith), ?_, ?_, fun h => ?_, fun h => ?_⟩
    · rw [← EReal.coe_sub, Ideal.exp_coe]
    · rw [← EReal.coe_mul, ← EReal.coe_mul, ← EReal.coe_sub, ← EReal.coe_sub, Ideal.exp2_coe]
      congr 1
      change (2 : ℝ) ^ (a * log2e - (μ * log2e - log2max) : ℝ) = _
      have h2 : Real.log 2 ≠ 0 := (Real.log_pos (by norm_num)).ne'
      rw [Real.rpow_def_of_pos (by norm_num), ← Real.exp_log (show (0 : ℝ) < 448 by norm_num), ← Real.exp_add]
      congr 1
      unfold log2e log2max
      field_simp
      ring
    · exact absurd h (EReal.coe_ne_bot a)
    · rw [EReal.coe_eq_coe_iff.mp h, sub_self, Real.exp_zero]

theorem coe_sum (s : Finset ℕ) (f : ℕ → ℝ) : ∑ r ∈ s, ((f r : ℝ) : EReal) = ((∑ r ∈ s, f r : ℝ) : EReal) := by
  induction s using Finset.induction_on with
  | empty => simp
  | insert a s ha ih => rw [Finset.sum_insert ha, Finset.sum_insert ha, ih, EReal.coe_add]

/-- The two rows agree: the scores the kernel forms are the reference's times `log2e`, and both are `⊥` past the first
    `n` rows, which are the ones the kernel visits. -/
theorem row_eq {n N : ℕ} (hn : n ≤ N) (x v : ℕ → EReal) (s : EReal) (hx : ∀ r, n ≤ r → x r = ⊥) :
    kernelRow n (fun r => x r * (log2e : EReal)) v s = referenceRow N x v s := by
  unfold kernelRow referenceRow
  rw [sup_scale, sup_extend hn x hx]
  generalize hM : (Finset.range n).sup x = M
  have hle : ∀ r, x r ≤ M := fun r => by
    by_cases h : r < n
    · rw [← hM]; exact Finset.le_sup (f := x) (Finset.mem_range.mpr h)
    · rw [hx r (by omega)]; exact bot_le
  congr 1
  by_cases hfin : ∃ μ : ℝ, M = (μ : EReal)
  · obtain ⟨μ, rfl⟩ := hfin
    choose ρ h0 h1 hP hp hbot htop using fun r => weight_eq (x r) μ (hle r)
    simp only [hP, hp]
    have hcodes : ∀ r, min (448 : EReal) (max 0 ((ρ r : EReal) * 448)) = ((448 * ρ r : ℝ) : EReal) := fun r => by
      have e : ((ρ r : EReal) * 448) = ((448 * ρ r : ℝ) : EReal) := by
        rw [mul_comm, EReal.coe_mul]; rfl
      rw [e, max_eq_right (by exact_mod_cast mul_nonneg (by norm_num) (h0 r)), min_eq_right]
      have : (448 * ρ r : ℝ) ≤ 448 := by nlinarith [h1 r]
      exact EReal.coe_le_coe_iff.mpr this
    have hmin : ∀ r, min ((448 * ρ r : ℝ) : EReal) 448 = ((448 * ρ r : ℝ) : EReal) := fun r => by
      rw [min_eq_left]
      have : (448 * ρ r : ℝ) ≤ 448 := by nlinarith [h1 r]
      exact EReal.coe_le_coe_iff.mpr this
    simp only [hcodes, hmin]
    have hz : ∀ r, r ∉ Finset.range n → ρ r = 0 := fun r hr => hbot r (hx r (by simpa using hr))
    have hsub : Finset.range n ⊆ Finset.range N := Finset.range_mono hn
    rw [← Finset.sum_subset hsub (fun r _ hr => by rw [hz r hr]; simp),
      ← Finset.sum_subset (f := fun r => ((ρ r : ℝ) : EReal)) hsub (fun r _ hr => by rw [hz r hr]; simp),
      coe_sum, coe_sum]
    have hpos : 0 < ∑ r ∈ Finset.range n, ρ r := by
      by_cases hn0 : n = 0
      · subst hn0; exact absurd hM.symm (EReal.coe_ne_bot μ)
      · obtain ⟨r, hr, e⟩ := Finset.exists_mem_eq_sup (Finset.range n) ⟨0, Finset.mem_range.mpr (by omega)⟩ x
        refine Finset.sum_pos' (fun r _ => h0 r) ⟨r, hr, ?_⟩
        rw [htop r (e.symm.trans hM)]; exact zero_lt_one
    rw [← Finset.mul_sum, Ideal.div_coe (by positivity), Ideal.div_coe hpos.ne', mul_assoc, ← EReal.coe_mul,
      one_div_mul_one_div]
    congr 1
    exact Finset.sum_congr rfl fun r _ => mul_comm _ _
  · have hM2 : M = ⊥ ∨ M = ⊤ := by
      induction M with
      | bot => exact .inl rfl
      | top => exact .inr rfl
      | coe a => exact absurd ⟨a, rfl⟩ hfin
    have hP : ∀ r, Ideal.exp (x r - M) = 0 := fun r => by
      rcases hM2 with rfl | rfl
      · rw [le_bot_iff.mp (hle r), EReal.bot_sub]; rfl
      · rw [EReal.sub_top]; rfl
    have hp : ∀ r, Ideal.exp2 (x r * (log2e : EReal) - (M * (log2e : EReal) - (log2max : EReal))) = 0 := fun r => by
      rcases hM2 with rfl | rfl
      · rw [le_bot_iff.mp (hle r), bot_mul_log2e, EReal.bot_sub]; rfl
      · rw [top_mul_log2e, EReal.top_sub_coe, EReal.sub_top]; rfl
    simp only [hP, hp]
    simp

end Cert.Proof.RowMath

end
-- ==== Proof.KernelRun.lean ====
/-
  The body of the attention call run once over the extended reals, at symbolic operands: from the six input blocks to the
  block it leaves in the result, named.
-/
module

public import proofs.«01_k».proof.Proof.WeightLoops
public import proofs.«01_k».proof.Proof.RowMath
public import Idealize.ShloMosaic.Lib.VecWindow

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- The running maximum read back from a buffer just written whole. -/
theorem mx_cov (Y : ℕ → ℕ → EReal) (N : ℕ) {sp : Space} (M : Memref sig .tc sp S8x256 .f32) (inb) (inb') (w : FVec Ideal S8x256 .f32)
    (hw : Mx Y N w) :
    Mx Y N (M.view.readCov (Val := Elt Ideal) [⟨Rect.unit (s := S8x256) ![0, 0] S8x256.size inb, w⟩] (Rect.unit (s := S8x256) ![0, 0] S8x256.size inb').toLoadRect) := by
  rw [View.readCov_full]; exact hw

section Loops

variable (c : Dev nD) (i : grid0.Coords)
  (arg4 : Memref sig .tc .smem S1x1x256 .f32) (harg4 : arg4.IsWhole)
  (arg5 : Memref sig .tc .smem S1x1x512 .f32) (harg5 : arg5.IsWhole)
  (arg6 : Memref sig .tc .vmem S256x128 .fp8e4m3) (harg6 : arg6.IsWhole)
  (arg7 : Memref sig .tc .vmem S32768x128 .fp8e4m3) (harg7 : arg7.IsWhole)
  (arg8 : Memref sig .tc .vmem S128x32768 .fp8e4m3) (harg8 : arg8.IsWhole)
  (arg9 : Memref sig .tc .vmem S1x8x128 .f32) (harg9 : arg9.IsWhole)
  (arg10 : Memref sig .tc .vmem S256x128 .bf16) (harg10 : arg10.IsWhole)
  (arg11 : Memref sig .tc .vmem S32768x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S128x256 .f32) (harg14 : arg14.IsWhole)

/-- The query scales of the tile, two rows of 128, times the constant that turns exponentials into powers of two. -/
def qScales (d4 : Vec Ideal S1x1x256 .f32) : FVec Ideal S1x256 .f32 := k0_pay142 (F := Ideal) (at1 d4 (2 * qt i)) (at1 d4 (2 * qt i + 1))

/-- The block the body writes: for each query row its weighted values over the keys up to the end of the tile, over the sum of
    the weights, times the value scale. -/
def outB (d4 : Vec Ideal S1x1x256 .f32) (d5 : Vec Ideal S1x1x512 .f32) (d6 : Vec Ideal S256x128 .fp8e4m3)
    (d7 : Vec Ideal S32768x128 .fp8e4m3) (d8 : Vec Ideal S128x32768 .fp8e4m3) (d9 : Vec Ideal S1x8x128 .f32) : Vec Ideal S256x128 .bf16 :=
  fun k => RowMath.kernelRow (256 * (qt i + 1)) (fun r => scoreY (qt i) (qScales i d4) d5 d6 d7 r (k 0).val) (fun r => at2 d8 (k 1).val r)
    (d9 (ix3 (0 : Fin 1) (0 : Fin 8) (⟨(k 1).val, (k 1).isLt⟩ : Fin 128)))

/-- The body run once: the six inputs handed back as they were, the result the named block, the four scratch buffers at some
    contents. -/
theorem kernelRun (d4 : Vec Ideal S1x1x256 .f32) (d5 : Vec Ideal S1x1x512 .f32) (d6 : Vec Ideal S256x128 .fp8e4m3)
    (d7 : Vec Ideal S32768x128 .fp8e4m3) (d8 : Vec Ideal S128x32768 .fp8e4m3) (d9 : Vec Ideal S1x8x128 .f32) (K : PUnit → sProp 𝕄) :
    iprop(owns (c : Thread nD τ) arg4 fullShare d4 ∗ owns (c : Thread nD τ) arg5 fullShare d5 ∗ owns (c : Thread nD τ) arg6 fullShare d6
        ∗ owns (c : Thread nD τ) arg7 fullShare d7 ∗ owns (c : Thread nD τ) arg8 fullShare d8 ∗ owns (c : Thread nD τ) arg9 fullShare d9
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg4 fullShare d4 ∗ owns (c : Thread nD τ) arg5 fullShare d5 ∗ owns (c : Thread nD τ) arg6 fullShare d6
        ∗ owns (c : Thread nD τ) arg7 fullShare d7 ∗ owns (c : Thread nD τ) arg8 fullShare d8 ∗ owns (c : Thread nD τ) arg9 fullShare d9
        ∗ owns (c : Thread nD τ) arg10 fullShare (outB i d4 d5 d6 d7 d8 d9) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)) -∗ K ⟨⟩))
      ⊢ wp frame (wpE (defs₀ (F := Ideal)) 𝒱₀ c none) Set.univ
          (cc0_attn i arg4 harg4 arg5 harg5 arg6 harg6 arg7 harg7 arg8 harg8 arg9 harg9 arg10 harg10 arg11 harg11 arg12 harg12 arg13 harg13 arg14 harg14) K := by
  simp only [cc0_attn_eq_skeleton]; unfold cc0_attn_skel
  unfold owns
  iintro ⟨⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, Hk⟩
  have h2 := trips2 i
  have h4' := trips4 i
  have h6' := trips6 i
  have h8' := trips8 i
  sl_exec
  generalize hv : kernelRun.sl.r_2 c i arg4 f4 = v29
  sl_for (fun k _ => scoreInv c arg5 arg6 arg7 arg11 arg12 (scoreY (qt i) v29 (rd arg5 f5) (rd arg6 f6) (rd arg7 f7)) (128 * k) f5 f6 f7) $$ [H5 H6 H7 H11 H12]
  · intro k acc
    exact t1_step c i arg4 harg4 arg5 harg5 arg6 harg6 arg7 harg7 arg8 harg8 arg9 harg9 arg10 harg10 arg11 harg11 arg12 harg12 arg13 harg13 arg14 harg14 0#32 0#32 (Scalar.ofBits .f32 0x00000000#32) v29 f5 f6 f7 k
  · unfold scoreInv
    isplitl [H5]; · iexact H5
    isplitl [H6]; · iexact H6
    isplitl [H7]; · iexact H7
    isplitl [H11]
    · iexists _; isplitr; swap; · iexact H11
      ipureintro
      exact fun j hj => absurd hj (by omega)
    iexists _; isplitr; swap; · iexact H12
    ipureintro
    delta kernelRun.sl.H12_1
    rw [show rd arg12 _ = _ from write_whole arg12 _ _ _]
    exact fun j => start_max j
  iintro %acc HI
  rw [show 128 * Scf.trips (k0_t1_loop i).lb (k0_t1_loop i).ub (k0_t1_loop i).st = 32 * (4 * (qt i / 4) + 0) from
    (congrArg (128 * ·) (trips1 i)).trans (by omega)]
  unfold scoreInv
  icases HI with ⟨H5, H6, H7, ⟨%f11', %h11, H11⟩, ⟨%f12', %h12, H12⟩⟩
  sl_exec
  sl_for (fun k _ => scoreInv c arg5 arg6 arg7 arg11 arg12 (scoreY (qt i) v29 (rd arg5 f5) (rd arg6 f6) (rd arg7 f7)) (32 * (4 * (qt i / 4) + k)) f5 f6 f7) $$ [H5 H6 H7 H11 H12]
  · intro k acc
    exact t3_step c i arg4 harg4 arg5 harg5 arg6 harg6 arg7 harg7 arg8 harg8 arg9 harg9 arg10 harg10 arg11 harg11 arg12 harg12 arg13 harg13 arg14 harg14 0#32 0#32 (Scalar.ofBits .f32 0x00000000#32) v29 _ f5 f6 f7 k
  · unfold scoreInv
    isplitl [H5]; · iexact H5
    isplitl [H6]; · iexact H6
    isplitl [H7]; · iexact H7
    isplitl [H11]
    · iexists _; isplitr; swap; · iexact H11
      ipureintro
      exact h11
    iexists _; isplitr; swap; · iexact H12
    ipureintro
    exact h12
  iintro %acc2 HI
  clear h11 h12 f11' f12'
  rw [show 32 * (4 * (qt i / 4) + Scf.trips (k0_t3_loop i).lb (k0_t3_loop i).ub (k0_t3_loop i).st) = 32 * qt i from
    (congrArg (fun x => 32 * (4 * (qt i / 4) + x)) (trips3 i)).trans (by omega)]
  unfold scoreInv
  icases HI with ⟨H5, H6, H7, ⟨%f11', %h11, H11⟩, ⟨%f12', %h12, H12⟩⟩
  sl_exec
  have hraw : Raw (rd arg6 f6) (rd arg7 f7) (256 * qt i) (kernelRun.sl.v58 c i arg6 arg7 f6 f7) := by
    delta kernelRun.sl.v58
    exact raw256 (rd arg6 f6) (rd arg7 f7) (256 * qt i) _ _ (load_whole arg6 f6 inb_S256x128_S256x128_0_0) (fun r d hr hd => by
      have := load_part (a' := 256) (b' := 128) arg7 f7 (k0_off14 i) (k0_off14_inb i) _ _ (off14_eq i) r d hr hd
      rw [Nat.zero_add] at this
      exact this)
  have g := fun (j : ℕ) (s : FVec Ideal S256x256 .f32) (κs : Ideal .f32) (o : ℕ) (hs : S256x256.Slices ![o, 0] S64x256)
      (hb : S1x256.Broadcasts S64x256) (ho : o = 64 * j) (h0 : S64x256.Iotas .tc 32 [0]) (h1 : S64x256.Iotas .tc 32 [1])
      (hw : Raw (rd arg6 f6) (rd arg7 f7) (256 * qt i) s) (hκ : κs = at1 (a := 512) (rd arg5 f5) (4 * qt i + j)) =>
    grpDiag (qt i) v29 (rd arg5 f5) (rd arg6 f6) (rd arg7 f7) j s κs o hs hb ho h0 h1 hw (hκ.trans (by congr 1; omega))
  have w := fun (r : Fin 4) => off16_eq i r
  have l := fun (r : Fin 4) => load_scalar arg5 f5 (k0_off15 i (BitVec.ofNat 32 r.val)) (k0_off15_inb i r) _ (off15_eq i r)
  generalize hY : scoreY (qt i) v29 (rd arg5 f5) (rd arg6 f6) (rd arg7 f7) = Y at *
  have h11' : Upto Y (256 * qt i + 64 * (3 + 1)) (rd arg11 (arg11.view.writes (Elt Ideal) f11'
      [⟨Rect.unit (s := S32768x256) (k0_off16 i 192#32) S64x256.size (k0_off16_inb i 3), k0_pay165 v29 (kernelRun.sl.v58 c i arg6 arg7 f6 f7) (kernelRun.sl.r_7 c i arg5 f5)⟩,
        ⟨Rect.unit (s := S32768x256) (k0_off16 i 128#32) S64x256.size (k0_off16_inb i 2), kernelRun.sl.v176 c i arg5 arg6 arg7 f5 f6 f7 v29⟩,
        ⟨Rect.unit (s := S32768x256) (k0_off16 i 64#32) S64x256.size (k0_off16_inb i 1), kernelRun.sl.v136 c i arg5 arg6 arg7 f5 f6 f7 v29⟩,
        ⟨Rect.unit (s := S32768x256) (k0_off16 i 0#32) S64x256.size (k0_off16_inb i 0), kernelRun.sl.v96 c i arg5 arg6 arg7 f5 f6 f7 v29⟩])) := by
    refine upto_step Y arg11 f11' _ _ _ _ _ (256 * qt i) 3 (w 3) ?_ (g 3 _ _ 192 _ _ rfl _ _ hraw (l 3 _))
    refine upto_step Y arg11 f11' _ _ _ _ _ (256 * qt i) 2 (w 2) ?_ (g 2 _ _ 128 _ _ rfl _ _ hraw (l 2 _))
    refine upto_step Y arg11 f11' _ _ _ _ _ (256 * qt i) 1 (w 1) ?_ (g 1 _ _ 64 _ _ rfl _ _ hraw (l 1 _))
    refine upto_step Y arg11 f11' _ _ _ _ _ (256 * qt i) 0 (w 0) ?_ (g 0 _ _ 0 _ _ rfl _ _ hraw (l 0 _))
    exact fun j hj => h11 j (by omega)
  have hs : ∀ x, x < 256 → at2 (kernelRun.sl.r_8 c i arg5 arg6 arg7 arg12 f5 f6 f7 v29 f12') 0 x
      = ((Finset.range (8 * (32 * qt i + 8 * 4))).sup fun r => Y r x) - ((Real.log 448 * (Real.log 2)⁻¹ : ℝ) : EReal) := by
    refine shift_apply Y (32 * qt i + 8 * 4) _ ?_
    delta kernelRun.sl.v223
    delta kernelRun.sl.H12_1_1
    refine mx_cov Y _ arg12 _ _ _ ?_
    delta k0_pay166
    refine mx_cast Y _ _ _ ?_
    refine max_step Y (32 * qt i) 3 _ _ _ _ _ ?_ (by rw [← Nat.mul_assoc]; exact g 3 _ _ 192 _ _ rfl _ _ hraw (l 3 _))
    delta kernelRun.sl.v179
    delta kernelRun.sl.v178
    refine max_step Y (32 * qt i) 2 _ _ _ _ _ ?_ (by rw [← Nat.mul_assoc]; exact g 2 _ _ 128 _ _ rfl _ _ hraw (l 2 _))
    delta kernelRun.sl.v139
    delta kernelRun.sl.v138
    refine max_step Y (32 * qt i) 1 _ _ _ _ _ ?_ (by rw [← Nat.mul_assoc]; exact g 1 _ _ 64 _ _ rfl _ _ hraw (l 1 _))
    delta kernelRun.sl.v99
    delta kernelRun.sl.v98
    refine max_step Y (32 * qt i) 0 _ _ _ _ _ ?_ (by rw [← Nat.mul_assoc]; exact g 0 _ _ 0 _ _ rfl _ _ hraw (l 0 _))
    delta kernelRun.sl.r_3
    rw [load_whole]
    exact h12
  clear hraw g w l
  generalize hf11 : arg11.view.writes (Elt Ideal) f11' _ = f11'' at h11'
  generalize hv2 : kernelRun.sl.r_8 c i arg5 arg6 arg7 arg12 f5 f6 f7 v29 f12' = v227 at hs
  clear hf11 hv2
  sl_for (fun k _ => weightInv c arg8 arg11 arg13 arg14 Y v227 (128 * k) f8 f11'') $$ [H8 H11 H13 H14]
  · intro k acc
    exact t5_step c i arg4 harg4 arg5 harg5 arg6 harg6 arg7 harg7 arg8 harg8 arg9 harg9 arg10 harg10 arg11 harg11 arg12 harg12 arg13 harg13 arg14 harg14 Y v227 _ f8 f11'' h11' k
  · unfold weightInv
    isplitl [H8]; · iexact H8
    isplitl [H11]; · iexact H11
    isplitl [H13]
    · iexists _; isplitr; swap; · iexact H13
      ipureintro
      delta kernelRun.sl.H13_1
      rw [show rd arg13 _ = _ from write_whole arg13 _ _ _]
      exact fun j => start_sum j
    iexists _; isplitr; swap; · iexact H14
    ipureintro
    delta kernelRun.sl.H14_1
    rw [show rd arg14 _ = _ from write_whole arg14 _ _ _]
    intro j
    refine (start_out j).trans ?_
    simp
  iintro %acc3 HI
  rw [show 128 * Scf.trips (k0_t5_loop i).lb (k0_t5_loop i).ub (k0_t5_loop i).st = 32 * (4 * (qt i / 4) + 0) from
    (congrArg (128 * ·) (trips5 i)).trans (by omega)]
  unfold weightInv
  icases HI with ⟨H8, H11, ⟨%f13', %h13, H13⟩, ⟨%f14', %h14, H14⟩⟩
  sl_exec
  sl_for (fun k _ => weightInv c arg8 arg11 arg13 arg14 Y v227 (32 * (4 * (qt i / 4) + k)) f8 f11'') $$ [H8 H11 H13 H14]
  · intro k acc
    exact t7_step c i arg4 harg4 arg5 harg5 arg6 harg6 arg7 harg7 arg8 harg8 arg9 harg9 arg10 harg10 arg11 harg11 arg12 harg12 arg13 harg13 arg14 harg14 Y v227 f8 f11'' h11' k
  · unfold weightInv
    isplitl [H8]; · iexact H8
    isplitl [H11]; · iexact H11
    isplitl [H13]
    · iexists _; isplitr; swap; · iexact H13
      ipureintro
      exact h13
    iexists _; isplitr; swap; · iexact H14
    ipureintro
    exact h14
  iintro %acc4 HI
  clear h13 h14 f13' f14'
  rw [show 32 * (4 * (qt i / 4) + Scf.trips (k0_t7_loop i).lb (k0_t7_loop i).ub (k0_t7_loop i).st) = 32 * (qt i + 1) from
    (congrArg (fun x => 32 * (4 * (qt i / 4) + x)) (trips7 i)).trans (by omega)]
  unfold weightInv
  icases HI with ⟨H8, H11, ⟨%f13', %h13, H13⟩, ⟨%f14', %h14, H14⟩⟩
  sl_exec
  sl_step
  iapply Hk
  isplitl [H4]; · iexists f4; isplitr; swap; · iexact H4
                  ipureintro; exact h4
  isplitl [H5]; · iexists f5; isplitr; swap; · iexact H5
                  ipureintro; exact h5
  isplitl [H6]; · iexists f6; isplitr; swap; · iexact H6
                  ipureintro; exact h6
  isplitl [H7]; · iexists f7; isplitr; swap; · iexact H7
                  ipureintro; exact h7
  isplitl [H8]; · iexists f8; isplitr; swap; · iexact H8
                  ipureintro; exact h8
  isplitl [H9]; · iexists f9; isplitr; swap; · iexact H9
                  ipureintro; exact h9
  isplitl [H10]
  · iexists _; isplitr; swap; · iexact H10
    ipureintro
    have hv' : v29 = qScales i d4 := by
      rw [← hv, ← h4]
      delta kernelRun.sl.r_2 qScales
      exact congrArg₂ k0_pay142 (load_scalar arg4 f4 _ (k0_off1_inb i 0) _ (off1_eq i 0) _) (load_scalar arg4 f4 _ (k0_off1_inb i 1) _ (off1_eq i 1) _)
    have hN : 8 * (32 * qt i + 8 * 4) = 256 * (qt i + 1) := by omega
    have hN' : 8 * (32 * (qt i + 1)) = 256 * (qt i + 1) := by omega
    rw [View.read_writes_full]
    funext k
    rw [load_whole, load_whole, out_apply (32 * (qt i + 1)) (weightP Y v227) (at2 (rd arg8 f8)) _ _ _ h13 h14 k, hN']
    unfold outB RowMath.kernelRow weightP RowMath.log2max
    rw [hs _ (k 0).isLt, hN, ← hY, hv', ← h5, ← h6, ← h7, ← h8, ← h9]
    refine congrArg₂ _ rfl ?_
    refine (at1_mk _ _ (k 1).isLt).trans (congrArg (arg9.view.read (Elt Ideal) f9) (funext fun x => Fin.ext ?_))
    match x with
    | ⟨0, _⟩ => rfl
    | ⟨1, _⟩ => rfl
    | ⟨2, _⟩ => show 0 + 1 * (k 1).val = (k 1).val; omega
  isplitl [H11]; · iexists _, _; isplitr; swap; · iexact H11
                   ipureintro; rfl
  isplitl [H12]; · iexists _, _; isplitr; swap; · iexact H12
                   ipureintro; rfl
  isplitl [H13]; · iexists _, _; isplitr; swap; · iexact H13
                   ipureintro; rfl
  iexists _, _; isplitr; swap; · iexact H14
  ipureintro; rfl

end Loops

end Cert.Proof.KernelIdeal

end
-- ==== Proof.KernelValue.lean ====
/-
  The attention call run over the extended reals with its result named: the body of `KernelRun` at every grid point, the
  pipeline around it.
-/
module

public import proofs.«01_k».proof.Proof.KernelRun
public import proofs.«01_k».proof.Proof.Gen.KernelIdeal.Frame
public import Idealize.ShloMosaic.Lib.Pipeline.Frame
public import Idealize.ShloMosaic.Lib.Pipeline.Kit
public import Idealize.ShloMosaic.Lib.Pipeline.Value
public import Idealize.ShloMosaic.Lib.Pipeline.ValueKit

@[expose] public section

set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UU nD τ) ℕ

/-! ## The pipeline's proof data -/

variable (m : (ℓ : Loc nD τ sig) → Buf (Elt Ideal) ℓ) (ρ : Dev nD → PrngReg)

/-- The arrays as the region finds them; each input's block left in place, the result's block the one named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant between points: the four scratch buffers at some contents, the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  rw [Pipeline.ΦA, scopedRest0_eq]; simp only [owns_whole]; try rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, the scratch anything. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- the launch theorem's implicit arguments are found by unifying its conclusion with this statement
set_option backward.isDefEq.respectTransparency.types false in
/-- Every weakly fair execution of @main terminates; every final state has the arrays of the pipeline at what the proof data
    says and every semaphore counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result named block by block: the result's array is what the write-backs leave, the six arguments are
    unchanged and every semaphore counter is at zero. -/
theorem run_all : θ_run defs (onTc (τ := τ) (main (F := Ideal))) ⟨m, fun _ => 0, ρ⟩ (fun r => (∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      (h.1.in_eq c 0 rfl).trans ((A_eq m c 0).trans (V_main_arg0 m c)),
      (h.1.in_eq c 1 rfl).trans ((A_eq m c 1).trans (V_main_arg1 m c)),
      (h.1.in_eq c 2 rfl).trans ((A_eq m c 2).trans (V_main_arg2 m c)),
      (h.1.in_eq c 3 rfl).trans ((A_eq m c 3).trans (V_main_arg3 m c)),
      (h.1.in_eq c 4 rfl).trans ((A_eq m c 4).trans (V_main_arg4 m c)),
      (h.1.in_eq c 5 rfl).trans ((A_eq m c 5).trans (V_main_arg5 m c))⟩, h.2⟩)
    (run_main m ρ)

end Cert.Proof.KernelIdeal

end
-- ==== Proof.Attention.lean ====
/-
  The attention both programs compute, as one function of the six argument arrays over the extended reals.
-/
module

public import proofs.«01_k».proof.Proof.RowMath
public import proofs.«01_k».proof.Proof.KernelOps

@[expose] public section

noncomputable section

namespace Cert.Proof

open Idealize.ShloMosaic
open Cert.Proof.KernelIdeal (at2)

/-- A rank-3 array at natural positions, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at3_mk {a b c : ℕ} (x : (⟨3, ![a, b, c]⟩ : Shape).Idx → EReal) (i j k : ℕ) (hi : i < a) (hj : j < b) (hk : k < c) :
    at3 x i j k = x (ix3 ⟨i, hi⟩ ⟨j, hj⟩ ⟨k, hk⟩) := dif_pos ⟨hi, hj, hk⟩

section

variable (qs : (⟨3, ![32, 1, 256]⟩ : Shape).Idx → EReal) (ks : (⟨3, ![8, 1, 512]⟩ : Shape).Idx → EReal)
  (q : (⟨2, ![65536, 2048]⟩ : Shape).Idx → EReal) (k : (⟨2, ![65536, 512]⟩ : Shape).Idx → EReal)
  (vt : (⟨2, ![1024, 32768]⟩ : Shape).Idx → EReal) (vs : (⟨3, ![2, 8, 512]⟩ : Shape).Idx → EReal)

/-- The scaled score of query `row` and key `r` of batch `b` and head `hd`; minus infinity for a key after the query. -/
def logit (b hd row r : ℕ) : EReal :=
  if r ≤ row then
    (∑ d : Fin 128, at2 q (b * 32768 + row) (hd * 128 + d.val) * at2 k (b * 32768 + r) (hd / 4 * 128 + d.val))
      * (at3 qs (b * 16 + hd) 0 (row / 128) * (((Real.sqrt 128)⁻¹ : ℝ) : EReal)) * at3 ks (b * 4 + hd / 4) 0 (r / 64)
  else ⊥

/-- The output row `b * 32768 + row`, column `hd * 128 + d`. -/
def attentionAt (b hd row d : ℕ) : EReal :=
  RowMath.referenceRow 32768 (logit qs ks q k b hd row) (fun r => at2 vt ((b * 4 + hd / 4) * 128 + d) r) (at3 vs b 0 (hd / 4 * 128 + d))

/-- The output array. -/
def attention (e : (⟨2, ![65536, 2048]⟩ : Shape).Idx) : EReal :=
  attentionAt qs ks q k vt vs ((e 0).val / 32768) ((e 1).val / 128) ((e 0).val % 32768) ((e 1).val % 128)

theorem attention_of {e : (⟨2, ![65536, 2048]⟩ : Shape).Idx} {b hd row d : ℕ} (h1 : (e 0).val / 32768 = b)
    (h2 : (e 1).val / 128 = hd) (h3 : (e 0).val % 32768 = row) (h4 : (e 1).val % 128 = d) :
    attention qs ks q k vt vs e = attentionAt qs ks q k vt vs b hd row d := by
  subst h1 h2 h3 h4; rfl

end

end Cert.Proof

end
-- ==== Proof.KernelFinal.lean ====
/-
  The array the attention call leaves, over the extended reals: the attention of the six argument arrays.
-/
module

public import proofs.«01_k».proof.Proof.KernelValue
public import proofs.«01_k».proof.Proof.Attention
public import Idealize.ShloMosaic.Lib.Pointwise

@[expose] public section

set_option maxHeartbeats 1000000

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-! ## The blocks of a grid point -/

/-- Every output index lies in the block of some grid point. -/
theorem cov : (cfg0.win 6).Covers := by decide +kernel

/-- The coordinates of a grid point: batch, key-value head, query head of its group, query tile. -/
theorem coord_lt (i : grid0.Coords) : (i 0).val < 2 ∧ (i 1).val < 4 ∧ (i 2).val < 4 ∧ (i 3).val < 128 :=
  ⟨(i 0).isLt, (i 1).isLt, (i 2).isLt, (i 3).isLt⟩

theorem index0 (i : grid0.Coords) : cc0_transform_0 i = ![(i 0).val * 16 + (i 1).val * 4 + (i 2).val, 0, 0] := by
  unfold cc0_transform_0
  dsimp only
  generalize i 0 = a; generalize i 1 = b; generalize i 2 = d
  change Fin 2 at a; change Fin 4 at b; change Fin 4 at d
  revert a b d; decide +kernel
theorem index1 (i : grid0.Coords) : cc0_transform_1 i = ![(i 0).val * 4 + (i 1).val, 0, 0] := by
  unfold cc0_transform_1
  dsimp only
  generalize i 0 = a; generalize i 1 = b
  change Fin 2 at a; change Fin 4 at b
  revert a b; decide +kernel
theorem index2 (i : grid0.Coords) : cc0_transform_2 i = ![(i 0).val * 128 + (i 3).val, (i 1).val * 4 + (i 2).val] := by
  unfold cc0_transform_2
  dsimp only
  generalize i 0 = a; generalize i 1 = b; generalize i 2 = d; generalize i 3 = e
  change Fin 2 at a; change Fin 4 at b; change Fin 4 at d; change Fin 128 at e
  revert a b d e; decide +kernel
theorem index3 (i : grid0.Coords) : cc0_transform_3 i = ![(i 0).val, (i 1).val] := by
  unfold cc0_transform_3
  dsimp only
  generalize i 0 = a; generalize i 1 = b
  change Fin 2 at a; change Fin 4 at b
  revert a b; decide +kernel
theorem index4 (i : grid0.Coords) : cc0_transform_4 i = ![(i 0).val * 4 + (i 1).val, 0] := by
  unfold cc0_transform_4
  dsimp only
  generalize i 0 = a; generalize i 1 = b
  change Fin 2 at a; change Fin 4 at b
  revert a b; decide +kernel
theorem index5 (i : grid0.Coords) : cc0_transform_5 i = ![(i 0).val, 0, (i 1).val] := by
  unfold cc0_transform_5
  dsimp only
  generalize i 0 = a; generalize i 1 = b
  change Fin 2 at a; change Fin 4 at b
  revert a b; decide +kernel

/-- The query scales of the point's head. -/
theorem qs_blk (c : Dev nD) (t : Fin cfg0.N) (r : ℕ) (hr : r < 256) :
    at1 (a := 256) (iblk m c 0 t) r = at3 (a := 32) (b := 1) (c := 256) (m ((c.tc : Thread nD τ).loc main_arg0))
      ((grid0.coords t 0).val * 16 + (grid0.coords t 1).val * 4 + (grid0.coords t 2).val) 0 r := by
  obtain ⟨h0, h1, h2, h3⟩ := coord_lt (grid0.coords t)
  have e : win0_0.index t = _ := index0 (grid0.coords t)
  rw [at1_mk _ r hr, at3_mk _ _ _ _ (by omega) (by omega) hr]
  blk_simp [iblk]
  rw [V_main_arg0]
  refine congrArg (m ((c.tc : Thread nD τ).loc main_arg0)) (funext fun x => Fin.ext ?_)
  match x with
  | ⟨0, _⟩ => blk_simp; rw [e]; rfl
  | ⟨1, _⟩ => blk_simp; rw [e]; rfl
  | ⟨2, _⟩ => blk_simp; rw [e]; exact (congrArg (· + r) (Nat.zero_mul 256)).trans (Nat.zero_add r)

/-- The key scales of the point's key-value head. -/
theorem ks_blk (c : Dev nD) (t : Fin cfg0.N) (r : ℕ) (hr : r < 512) :
    at1 (a := 512) (iblk m c 1 t) r = at3 (a := 8) (b := 1) (c := 512) (m ((c.tc : Thread nD τ).loc main_arg1))
      ((grid0.coords t 0).val * 4 + (grid0.coords t 1).val) 0 r := by
  obtain ⟨h0, h1, h2, h3⟩ := coord_lt (grid0.coords t)
  have e : win0_1.index t = _ := index1 (grid0.coords t)
  rw [at1_mk _ r hr, at3_mk _ _ _ _ (by omega) (by omega) hr]
  blk_simp [iblk]
  rw [V_main_arg1]
  refine congrArg (m ((c.tc : Thread nD τ).loc main_arg1)) (funext fun x => Fin.ext ?_)
  match x with
  | ⟨0, _⟩ => blk_simp; rw [e]; rfl
  | ⟨1, _⟩ => blk_simp; rw [e]; rfl
  | ⟨2, _⟩ => blk_simp; rw [e]; exact (congrArg (· + r) (Nat.zero_mul 512)).trans (Nat.zero_add r)

/-- The query tile. -/
theorem q_blk (c : Dev nD) (t : Fin cfg0.N) (r d : ℕ) (hr : r < 256) (hd : d < 128) :
    at2 (a := 256) (b := 128) (iblk m c 2 t) r d = at2 (a := 65536) (b := 2048) (m ((c.tc : Thread nD τ).loc main_arg2))
      (((grid0.coords t 0).val * 128 + (grid0.coords t 3).val) * 256 + r)
      (((grid0.coords t 1).val * 4 + (grid0.coords t 2).val) * 128 + d) := by
  obtain ⟨h0, h1, h2, h3⟩ := coord_lt (grid0.coords t)
  have e : win0_2.index t = _ := index2 (grid0.coords t)
  rw [at2_mk _ r d hr hd, at2_mk _ _ _ (by omega) (by omega)]
  blk_simp [iblk]
  rw [V_main_arg2]
  refine congrArg (m ((c.tc : Thread nD τ).loc main_arg2)) (funext fun x => Fin.ext ?_)
  match x with
  | ⟨0, _⟩ => blk_simp; rw [e]; rfl
  | ⟨1, _⟩ => blk_simp; rw [e]; rfl

/-- The keys of the point's batch and key-value head. -/
theorem k_blk (c : Dev nD) (t : Fin cfg0.N) (r d : ℕ) (hr : r < 32768) (hd : d < 128) :
    at2 (a := 32768) (b := 128) (iblk m c 3 t) r d = at2 (a := 65536) (b := 512) (m ((c.tc : Thread nD τ).loc main_arg3))
      ((grid0.coords t 0).val * 32768 + r) ((grid0.coords t 1).val * 128 + d) := by
  obtain ⟨h0, h1, h2, h3⟩ := coord_lt (grid0.coords t)
  have e : win0_3.index t = _ := index3 (grid0.coords t)
  rw [at2_mk _ r d hr hd, at2_mk _ _ _ (by omega) (by omega)]
  blk_simp [iblk]
  rw [V_main_arg3]
  refine congrArg (m ((c.tc : Thread nD τ).loc main_arg3)) (funext fun x => Fin.ext ?_)
  match x with
  | ⟨0, _⟩ => blk_simp; rw [e]; rfl
  | ⟨1, _⟩ => blk_simp; rw [e]; rfl

/-- The values of the point's batch and key-value head; both sides are zero past the last key. -/
theorem vt_blk (c : Dev nD) (t : Fin cfg0.N) (d r : ℕ) (hd : d < 128) :
    at2 (a := 128) (b := 32768) (iblk m c 4 t) d r = at2 (a := 1024) (b := 32768) (m ((c.tc : Thread nD τ).loc main_arg4))
      (((grid0.coords t 0).val * 4 + (grid0.coords t 1).val) * 128 + d) r := by
  obtain ⟨h0, h1, h2, h3⟩ := coord_lt (grid0.coords t)
  have e : win0_4.index t = _ := index4 (grid0.coords t)
  by_cases hr : r < 32768
  · rw [at2_mk _ d r hd hr, at2_mk _ _ _ (by omega) hr]
    blk_simp [iblk]
    rw [V_main_arg4]
    refine congrArg (m ((c.tc : Thread nD τ).loc main_arg4)) (funext fun x => Fin.ext ?_)
    match x with
    | ⟨0, _⟩ => blk_simp; rw [e]; rfl
    | ⟨1, _⟩ => blk_simp; rw [e]; exact (congrArg (· + r) (Nat.zero_mul 32768)).trans (Nat.zero_add r)
  · unfold at2
    rw [dif_neg (fun h => hr h.2), dif_neg (fun h => hr h.2)]

/-- The value scales of the point's batch and key-value head. -/
theorem vs_blk (c : Dev nD) (t : Fin cfg0.N) (d : ℕ) (hd : d < 128) :
    (iblk m c 5 t : (⟨3, ![1, 8, 128]⟩ : Shape).Idx → EReal) (ix3 (0 : Fin 1) (0 : Fin 8) (⟨d, hd⟩ : Fin 128))
      = at3 (a := 2) (b := 8) (c := 512) (m ((c.tc : Thread nD τ).loc main_arg5))
        (grid0.coords t 0).val 0 ((grid0.coords t 1).val * 128 + d) := by
  obtain ⟨h0, h1, h2, h3⟩ := coord_lt (grid0.coords t)
  have e : win0_5.index t = _ := index5 (grid0.coords t)
  rw [at3_mk _ _ _ _ (by omega) (by omega) (by omega)]
  blk_simp [iblk]
  rw [V_main_arg5]
  refine congrArg (m ((c.tc : Thread nD τ).loc main_arg5)) (funext fun x => Fin.ext ?_)
  match x with
  | ⟨0, _⟩ => blk_simp; rw [e]; rfl
  | ⟨1, _⟩ => blk_simp; rw [e]; rfl
  | ⟨2, _⟩ => blk_simp; rw [e]; rfl

/-- The two query scales of a tile spread over its rows, times the folded constant. -/
theorem qScales_at (i : grid0.Coords) (d4 : (⟨3, ![1, 1, 256]⟩ : Shape).Idx → EReal) (y : ℕ) (hy : y < 256) :
    at2 (a := 1) (b := 256) (qScales i d4) 0 y
      = at1 d4 ((qt i * 256 + y) / 128) * (((Real.log 2)⁻¹ * (Real.sqrt 128)⁻¹ : ℝ) : EReal) := by
  have e : Named.named (F := Ideal) (φ := .f32) κ "scale" 0x3E0293EE#32 = (((Real.log 2)⁻¹ * (Real.sqrt 128)⁻¹ : ℝ) : EReal) :=
    IdealRules.named_const.ideal_named_scalar _ _ _ _ rfl
  have hq := qt_lt i
  rw [at2_mk _ 0 y (by omega) hy]
  unfold qScales
  unfold k0_pay142
  pointwise []
  by_cases h : y < 128
  · have e2 : (qt i * 256 + y) / 128 = 2 * qt i := by omega
    simp only [h, dite_true, e2, ← e]
  · have e2 : (qt i * 256 + y) / 128 = 2 * qt i + 1 := by omega
    simp only [h, dite_false, e2, ← e]

/-- The kernel's scaled and masked score is the reference's logit times the base-2 logarithm of `e`. -/
theorem score_eq (c : Dev nD) (t : Fin cfg0.N) (r y : ℕ) (hy : y < 256) :
    scoreY (qt (grid0.coords t)) (qScales (grid0.coords t) (iblk m c 0 t)) (iblk m c 1 t) (iblk m c 2 t) (iblk m c 3 t) r y
      = logit (m ((c.tc : Thread nD τ).loc main_arg0)) (m ((c.tc : Thread nD τ).loc main_arg1)) (m ((c.tc : Thread nD τ).loc main_arg2))
          (m ((c.tc : Thread nD τ).loc main_arg3)) (grid0.coords t 0).val
          ((grid0.coords t 1).val * 4 + (grid0.coords t 2).val) (qt (grid0.coords t) * 256 + y) r * (RowMath.log2e : EReal) := by
  obtain ⟨h0, h1, h2, h3⟩ := coord_lt (grid0.coords t)
  have h3' := qt_lt (grid0.coords t)
  unfold scoreY logit
  by_cases h : r ≤ qt (grid0.coords t) * 256 + y
  · have hd : ((grid0.coords t 1).val * 4 + (grid0.coords t 2).val) / 4 = (grid0.coords t 1).val := by omega
    rw [if_pos (by omega), if_pos h, qScales_at _ _ y hy, qs_blk m c t _ (by omega), ks_blk m c t _ (by omega), hd]
    have hraw : rawScore (iblk m c 2 t) (iblk m c 3 t) r y
        = ∑ d : Fin 128, at2 (a := 65536) (b := 2048) (m ((c.tc : Thread nD τ).loc main_arg2))
            ((grid0.coords t 0).val * 32768 + (qt (grid0.coords t) * 256 + y)) (((grid0.coords t 1).val * 4 + (grid0.coords t 2).val) * 128 + d.val)
          * at2 (a := 65536) (b := 512) (m ((c.tc : Thread nD τ).loc main_arg3)) ((grid0.coords t 0).val * 32768 + r) ((grid0.coords t 1).val * 128 + d.val) := by
      unfold rawScore
      refine Finset.sum_congr rfl fun d _ => ?_
      have h5 : ((grid0.coords t 0).val * 128 + (grid0.coords t 3).val) * 256 + y
          = (grid0.coords t 0).val * 32768 + (qt (grid0.coords t) * 256 + y) := by unfold qt; omega
      rw [k_blk m c t r d.val (by omega) d.isLt, q_blk m c t y d.val hy d.isLt, h5, mul_comm]
    rw [hraw]
    have hl : (((Real.log 2)⁻¹ * (Real.sqrt 128)⁻¹ : ℝ) : EReal) = (RowMath.log2e : EReal) * (((Real.sqrt 128)⁻¹ : ℝ) : EReal) := by
      unfold RowMath.log2e; exact EReal.coe_mul _ _
    rw [hl]
    have e16 : (grid0.coords t 0).val * 16 + ((grid0.coords t 1).val * 4 + (grid0.coords t 2).val)
      = (grid0.coords t 0).val * 16 + (grid0.coords t 1).val * 4 + (grid0.coords t 2).val := by omega
    rw [e16]
    ac_rfl
  · rw [if_neg (by omega), if_neg h, RowMath.bot_mul_log2e]

/-- What the run leaves in the output array is the attention of the argument arrays. -/
theorem final_out (c : Dev nD) :
    (dats m 0 c).arrAt 6 cfg0.N = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ cov fun t hf y => ?_
  blk_simp
  rw [after0_6]
  idx_vars y
  obtain ⟨h0, h1, h2, h3⟩ := coord_lt (grid0.coords t)
  have h3' := qt_lt (grid0.coords t)
  have hy0 := y0.isLt
  have hy1 := y1.isLt
  have e : win0_6.index t = _ := index2 (grid0.coords t)
  have p0 : (((win0_6.blk t).view.emb (ix2 y0 y1)) 0).val = ((grid0.coords t 0).val * 128 + (grid0.coords t 3).val) * 256 + y0.val := by
    blk_simp; rw [e]; rfl
  have p1 : (((win0_6.blk t).view.emb (ix2 y0 y1)) 1).val = ((grid0.coords t 1).val * 4 + (grid0.coords t 2).val) * 128 + y1.val := by
    blk_simp; rw [e]; rfl
  have a1 : (((win0_6.blk t).view.emb (ix2 y0 y1)) 0).val / 32768 = (grid0.coords t 0).val := by rw [p0]; omega
  have a2 : (((win0_6.blk t).view.emb (ix2 y0 y1)) 1).val / 128 = (grid0.coords t 1).val * 4 + (grid0.coords t 2).val := by rw [p1]; omega
  have a3 : (((win0_6.blk t).view.emb (ix2 y0 y1)) 0).val % 32768 = qt (grid0.coords t) * 256 + y0.val := by rw [p0]; unfold qt; omega
  have a4 : (((win0_6.blk t).view.emb (ix2 y0 y1)) 1).val % 128 = y1.val := by rw [p1]; omega
  have a5 : ((grid0.coords t 1).val * 4 + (grid0.coords t 2).val) / 4 = (grid0.coords t 1).val := by omega
  have hs := fun r => score_eq m c t r y0.val hy0
  have hv := fun r => vt_blk m c t y1.val r hy1
  have hz := vs_blk m c t y1.val hy1
  refine Eq.trans ?_ (attention_of _ _ _ _ _ _ a1 a2 a3 a4).symm
  unfold attentionAt
  rw [a5]
  refine Eq.trans ?_ (RowMath.row_eq (n := 256 * (qt (grid0.coords t) + 1)) (N := 32768) (by omega) _ _ _ fun r hr => ?_)
  · unfold outB
    rw [← hz, ← funext hv, ← funext hs]
    rfl
  · unfold logit
    rw [if_neg (by omega)]

end Cert.Proof.KernelIdeal

end
-- ==== Proof.ReferenceRow.lean ====
/-
  The plain attention's arithmetic over the extended reals, read at an index.
-/
module

public import proofs.«01_k».proof.Proof.RowMath
public import proofs.«01_k».proof.Proof.KernelOps
public import proofs.«01_k».proof.Proof.Gen.ReferenceIdeal.Value
public import Idealize.ShloMosaic.Lib.Pointwise

@[expose] public section

set_option maxHeartbeats 1000000

noncomputable section

namespace Cert.Proof.ReferenceIdeal

open Cert.ReferenceIdeal Cert.ReferenceIdeal.Gen
open Idealize.ShloMosaic Idealize.ShloMosaic.TcCoe Idealize.ShloMosaic.Tactic

/-- The score of query `i` and key `j` of batch and head `h`, scaled and masked. -/
def rowLogit (q k : Vec Ideal S32x32768x128 .fp8e4m3) (qs : Vec Ideal S32x32768x1 .f32) (ks : Vec Ideal S32x1x32768 .f32)
    (h : Fin 32) (i j : Fin 32768) : EReal :=
  if j.val ≤ i.val then
    (∑ x : Fin 128, q (ix3 h i x) * k (ix3 h j x)) * (qs (ix3 h i (0 : Fin 1)) * (((Real.sqrt 128)⁻¹ : ℝ) : EReal)) * ks (ix3 h (0 : Fin 1) j)
  else ⊥

/-- The comparison of two positions as words, as a choice. -/
theorem causal (i j : Fin 32768) (a b : EReal) :
    Scalar.select (IntOp.cmpi .sle (BitVec.ofNat 32 j.val) (BitVec.ofNat 32 i.val)) a b = if j.val ≤ i.val then a else b := by
  rw [WordCmp.cmpi_sle_ofNat (by norm_num; omega) (by norm_num; omega), WordCmp.select_ofBool]
  simp only [decide_eq_true_eq]

/-- The weight of key `j` for query `i`, not yet scaled to the quantiser's range. -/
theorem pay2_apply (q k : Vec Ideal S32x32768x128 .fp8e4m3) (qs : Vec Ideal S32x32768x1 .f32) (ks : Vec Ideal S32x1x32768 .f32)
    (h : Fin 32) (i j : Fin 32768) : k0_pay2 (F := Ideal) q k qs ks (ix3 h i j)
      = Ideal.exp (rowLogit q k qs ks h i j - Finset.univ.sup fun x : Fin 32768 => rowLogit q k qs ks h i x) := by
  have e : Named.named (F := Ideal) (φ := .f32) κ "inv_sqrt_d" 0x3DB504F3#32 = (((Real.sqrt 128)⁻¹ : ℝ) : EReal) :=
    IdealRules.named_const.ideal_named_scalar _ _ _ _ rfl
  pointwise [k0_pay2]
  rw [e, Cert.Proof.KernelIdeal.ofBits_neg_inf, Cert.Proof.KernelIdeal.fold_max_eq]
  simp only [causal]
  rfl

/-- The quotient of the weighted values and the row sum, times the value scale. -/
theorem pay1_apply (l : FVec Ideal S32x32768x1 .f32) (p : FVec Ideal S32x32768x32768 .fp8e4m3) (v : FVec Ideal S32x128x32768 .fp8e4m3)
    (vs : Vec Ideal S32x1x128 .f32) (e0 : Fin 65536) (e1 : Fin 2048) (h : Fin 32) (i : Fin 32768) (d : Fin 128)
    (hh : h.val = e0.val / 32768 * 16 + e1.val / 128) (hi : i.val = e0.val % 32768) (hd : d.val = e1.val % 128) :
    k0_pay1 (F := Ideal) l p v (constant S32x32768x128 .f32 0x00000000#32) vs (ix2 e0 e1)
      = Ideal.div ((∑ x : Fin 32768, p (ix3 h i x) * v (ix3 h d x)) * ((1 / 448 : ℝ) : EReal)) (l (ix3 h i (0 : Fin 1)))
          * vs (ix3 h (0 : Fin 1) d) := by
  have e : Named.named (F := Ideal) (φ := .f32) κ "inv_fp8_max" 0x3B124925#32 = ((1 / 448 : ℝ) : EReal) :=
    IdealRules.named_const.ideal_named_scalar _ _ _ _ rfl
  pointwise [k0_pay1]
  rw [e]
  have eh : h = ⟨e0.val / 32768 * 16 + e1.val / 128, by omega⟩ := Fin.ext hh
  have ei : i = ⟨e0.val % 32768, by omega⟩ := Fin.ext hi
  have ed : d = ⟨e1.val % 128, by omega⟩ := Fin.ext hd
  rw [eh, ei, ed]

/-- The sum of the weights of a row. -/
theorem pay3_apply (q k : Vec Ideal S32x32768x128 .fp8e4m3) (qs : Vec Ideal S32x32768x1 .f32) (ks : Vec Ideal S32x1x32768 .f32)
    (h : Fin 32) (i : Fin 32768) : k0_pay3 (F := Ideal) q k qs ks (ix3 h i (0 : Fin 1))
      = ∑ j : Fin 32768, k0_pay2 (F := Ideal) q k qs ks (ix3 h i j) := by
  pointwise [k0_pay3]

/-- The weight scaled to the quantiser's range and clamped to it. -/
theorem pay4_apply (q k : Vec Ideal S32x32768x128 .fp8e4m3) (qs : Vec Ideal S32x32768x1 .f32) (ks : Vec Ideal S32x1x32768 .f32)
    (h : Fin 32) (i j : Fin 32768) : k0_pay4 (F := Ideal) q k qs ks (ix3 h i j)
      = min 448 (max 0 (k0_pay2 (F := Ideal) q k qs ks (ix3 h i j) * 448)) := by
  pointwise [k0_pay4]
  rw [Cert.Proof.KernelIdeal.ofBits_448]

/-- A sum over the first `n` positions of values given on `Fin n`. -/
theorem sum_fin {n : ℕ} (f : ℕ → EReal) : (∑ r ∈ Finset.range n, f r) = ∑ x : Fin n, f x.val := Finset.sum_range f

/-- A maximum over the first `n` positions of values given on `Fin n`. -/
theorem sup_fin {n : ℕ} (f : ℕ → EReal) : (Finset.range n).sup f = Finset.univ.sup fun x : Fin n => f x.val := by
  refine le_antisymm (Finset.sup_le fun r hr => ?_) (Finset.sup_le fun x _ => Finset.le_sup (f := f) (Finset.mem_range.mpr x.isLt))
  exact Finset.le_sup (f := fun x : Fin n => f x.val) (Finset.mem_univ (⟨r, Finset.mem_range.mp hr⟩ : Fin n))

/-- One entry of the result is one row of the plain attention: `x` and `v` are that row's logits and values. -/
theorem row_apply (q k : Vec Ideal S32x32768x128 .fp8e4m3) (qs : Vec Ideal S32x32768x1 .f32) (ks : Vec Ideal S32x1x32768 .f32)
    (v : Vec Ideal S32x128x32768 .fp8e4m3) (vs : Vec Ideal S32x1x128 .f32) (e0 : Fin 65536) (e1 : Fin 2048) (h : Fin 32) (i : Fin 32768)
    (d : Fin 128) (hh : h.val = e0.val / 32768 * 16 + e1.val / 128) (hi : i.val = e0.val % 32768) (hd : d.val = e1.val % 128)
    (x w : ℕ → EReal) (hx : ∀ j : Fin 32768, rowLogit q k qs ks h i j = x j.val) (hw : ∀ j : Fin 32768, v (ix3 h d j) = w j.val) :
    k0_pay1 (F := Ideal) (k0_pay3 q k qs ks) (k0_pay4 q k qs ks) (k0_pay5 v) (constant S32x32768x128 .f32 0x00000000#32) vs (ix2 e0 e1)
      = RowMath.referenceRow 32768 x w (vs (ix3 h (0 : Fin 1) d)) := by
  rw [pay1_apply _ _ _ _ e0 e1 h i d hh hi hd, pay3_apply]
  unfold RowMath.referenceRow
  simp only [pay4_apply, pay2_apply, hx, sum_fin, sup_fin]
  have e5 : k0_pay5 (F := Ideal) v = v := by unfold k0_pay5; exact shapeCast_self _ _
  simp only [e5, hw]

end Cert.Proof.ReferenceIdeal

end
-- ==== Proof.ReferenceHost.lean ====
/-
  The arrays the host prepares for the plain attention, read at an index, and the blocks of its one grid point.
-/
module

public import proofs.«01_k».proof.Proof.ReferenceRow
public import proofs.«01_k».proof.Proof.Attention
public import Idealize.ShloMosaic.Lib.StableHlo.ReadAt

@[expose] public section

set_option maxHeartbeats 1000000
set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Cert.Proof.KernelIdeal (at2 at2_mk)

variable (m : (ℓ : Loc nD τ sig) → Buf (Elt Ideal) ℓ)

/-! ## The arrays the host prepares, at an index -/

/-- Heads numbered over both batches. -/
theorem headsK (x : Vec Ideal S2x16x32768x128 .fp8e4m3) (h : Fin 32) (j : Fin 32768) (d : Fin 128) :
  (shapeCast S32x32768x128 x shapeCasts_S2x16x32768x128_S32x32768x128) (ix3 h j d) = x (ix4 ⟨h.val/16, by omega⟩ ⟨h.val%16, by omega⟩ j d) := by
  pointwise

/-- A head is a query head of its group. -/
theorem groupsK (x : Vec Ideal S2x4x4x32768x128 .fp8e4m3) (b : Fin 2) (h : Fin 16) (j : Fin 32768) (d : Fin 128) :
  (shapeCast S2x16x32768x128 x shapeCasts_S2x4x4x32768x128_S2x16x32768x128) (ix4 b h j d) = x (ix5 b ⟨h.val/4, by omega⟩ ⟨h.val%4, by omega⟩ j d) := by
  pointwise

/-- Every query head of a group reads the same key-value head. -/
theorem repeatK (x : Vec Ideal S2x4x32768x128 .fp8e4m3) (b : Fin 2) (h g : Fin 4) (j : Fin 32768) (d : Fin 128) :
  (broadcastInDim S2x4x4x32768x128 ![0, 1, 3, 4] bcast_S2x4x32768x128_S2x4x4x32768x128_0_1_3_4 x) (ix5 b h g j d) = x (ix4 b h j d) := by
  pointwise

/-- Key-value heads out of the columns. -/
theorem columnsK (x : Vec Ideal S65536x512 .fp8e4m3) (b : Fin 2) (h : Fin 4) (j : Fin 32768) (d : Fin 128) :
  ((transpose S2x4x32768x128 [0, 2, 1, 3] · transposes_S2x32768x4x128_S2x4x32768x128_0_2_1_3) (shapeCast S2x32768x4x128 x shapeCasts_S65536x512_S2x32768x4x128)) (ix4 b h j d)
   = x (ix2 ⟨b.val * 32768 + j.val, by omega⟩ ⟨h.val * 128 + d.val, by omega⟩) := by
  pointwise

/-- Heads numbered over both batches. -/
theorem headsV (x : Vec Ideal S2x16x128x32768 .fp8e4m3) (h : Fin 32) (d : Fin 128) (j : Fin 32768) :
  (shapeCast S32x128x32768 x shapeCasts_S2x16x128x32768_S32x128x32768) (ix3 h d j) = x (ix4 ⟨h.val/16, by omega⟩ ⟨h.val%16, by omega⟩ d j) := by
  pointwise

/-- A head is a query head of its group. -/
theorem groupsV (x : Vec Ideal S2x4x4x128x32768 .fp8e4m3) (b : Fin 2) (h : Fin 16) (d : Fin 128) (j : Fin 32768) :
  (shapeCast S2x16x128x32768 x shapeCasts_S2x4x4x128x32768_S2x16x128x32768) (ix4 b h d j) = x (ix5 b ⟨h.val/4, by omega⟩ ⟨h.val%4, by omega⟩ d j) := by
  pointwise

/-- Every query head of a group reads the same key-value head. -/
theorem repeatV (x : Vec Ideal S2x4x128x32768 .fp8e4m3) (b : Fin 2) (h g : Fin 4) (d : Fin 128) (j : Fin 32768) :
  (broadcastInDim S2x4x4x128x32768 ![0, 1, 3, 4] bcast_S2x4x128x32768_S2x4x4x128x32768_0_1_3_4 x) (ix5 b h g d j) = x (ix4 b h d j) := by
  pointwise

/-- Key-value heads out of the rows. -/
theorem rowsV (x : Vec Ideal S1024x32768 .fp8e4m3) (b : Fin 2) (h : Fin 4) (d : Fin 128) (j : Fin 32768) :
  (shapeCast S2x4x128x32768 x shapeCasts_S1024x32768_S2x4x128x32768) (ix4 b h d j)
   = x (ix2 ⟨(b.val * 4 + h.val) * 128 + d.val, by omega⟩ j) := by
  pointwise
  exact congrArg (fun n => x (ix2 n j)) (Fin.ext (by show b.val * 512 + h.val * 128 + d.val = (b.val * 4 + h.val) * 128 + d.val; omega))

theorem q_at (c : Dev nD) (h : Fin 32) (i : Fin 32768) (d : Fin 128) :
    (V m c main_v2 : Vec Ideal S32x32768x128 .fp8e4m3) (ix3 h i d)
      = (m ((c.tc : Thread nD τ).loc main_arg2) : Vec Ideal S65536x2048 .fp8e4m3)
          (ix2 ⟨h.val / 16 * 32768 + i.val, by omega⟩ ⟨h.val % 16 * 128 + d.val, by omega⟩) := by
  unfold V; after_reads_at

theorem k_at (c : Dev nD) (h : Fin 32) (j : Fin 32768) (d : Fin 128) :
    (V m c main_v7 : Vec Ideal S32x32768x128 .fp8e4m3) (ix3 h j d)
      = (m ((c.tc : Thread nD τ).loc main_arg3) : Vec Ideal S65536x512 .fp8e4m3)
          (ix2 ⟨h.val / 16 * 32768 + j.val, by omega⟩ ⟨h.val % 16 / 4 * 128 + d.val, by omega⟩) := by
  have e : (V m c main_v7 : Vec Ideal S32x32768x128 .fp8e4m3) = shapeCast S32x32768x128 (shapeCast S2x16x32768x128
      (broadcastInDim S2x4x4x32768x128 ![0, 1, 3, 4] bcast_S2x4x32768x128_S2x4x4x32768x128_0_1_3_4
        ((transpose S2x4x32768x128 [0, 2, 1, 3] · transposes_S2x32768x4x128_S2x4x32768x128_0_2_1_3)
          (shapeCast S2x32768x4x128 (m ((c.tc : Thread nD τ).loc main_arg3) : Vec Ideal S65536x512 .fp8e4m3) shapeCasts_S65536x512_S2x32768x4x128)))
      shapeCasts_S2x4x4x32768x128_S2x16x32768x128) shapeCasts_S2x16x32768x128_S32x32768x128 := by
    unfold V; after_reads_simp; rfl
  rw [e, headsK, groupsK, repeatK, columnsK]

theorem vt_at (c : Dev nD) (h : Fin 32) (d : Fin 128) (j : Fin 32768) :
    (V m c main_v11 : Vec Ideal S32x128x32768 .fp8e4m3) (ix3 h d j)
      = (m ((c.tc : Thread nD τ).loc main_arg4) : Vec Ideal S1024x32768 .fp8e4m3)
          (ix2 ⟨(h.val / 16 * 4 + h.val % 16 / 4) * 128 + d.val, by omega⟩ j) := by
  have e : (V m c main_v11 : Vec Ideal S32x128x32768 .fp8e4m3) = shapeCast S32x128x32768 (shapeCast S2x16x128x32768
      (broadcastInDim S2x4x4x128x32768 ![0, 1, 3, 4] bcast_S2x4x128x32768_S2x4x4x128x32768_0_1_3_4
        (shapeCast S2x4x128x32768 (m ((c.tc : Thread nD τ).loc main_arg4) : Vec Ideal S1024x32768 .fp8e4m3) shapeCasts_S1024x32768_S2x4x128x32768))
      shapeCasts_S2x4x4x128x32768_S2x16x128x32768) shapeCasts_S2x16x128x32768_S32x128x32768 := by
    unfold V; after_reads_simp; rfl
  rw [e, headsV, groupsV, repeatV, rowsV]

theorem qs_at (c : Dev nD) (h : Fin 32) (i : Fin 32768) :
    (V m c main_v15 : Vec Ideal S32x32768x1 .f32) (ix3 h i (0 : Fin 1))
      = (m ((c.tc : Thread nD τ).loc main_arg0) : Vec Ideal S32x1x256 .f32) (ix3 h (0 : Fin 1) ⟨i.val / 128, by omega⟩) := by
  unfold V; after_reads_at

theorem ks_at (c : Dev nD) (h : Fin 32) (j : Fin 32768) :
    (V m c main_v21 : Vec Ideal S32x1x32768 .f32) (ix3 h (0 : Fin 1) j)
      = (m ((c.tc : Thread nD τ).loc main_arg1) : Vec Ideal S8x1x512 .f32)
          (ix3 ⟨h.val / 16 * 4 + h.val % 16 / 4, by omega⟩ (0 : Fin 1) ⟨j.val / 64, by omega⟩) := by
  unfold V; after_reads_at

theorem vs_at (c : Dev nD) (h : Fin 32) (d : Fin 128) :
    (V m c main_v27 : Vec Ideal S32x1x128 .f32) (ix3 h (0 : Fin 1) d)
      = (m ((c.tc : Thread nD τ).loc main_arg5) : Vec Ideal S2x8x512 .f32)
          (ix3 ⟨h.val / 16, by omega⟩ (0 : Fin 8) ⟨h.val % 16 / 4 * 128 + d.val, by omega⟩) := by
  unfold V; after_reads_at

/-! ## The one grid point's blocks are the whole arrays -/

/-- Window 0 reads the whole array. -/
theorem read0 (t : Fin cfg0.N) (X : Vec Ideal S32x32768x1 .f32) : (((cfg0.win 0).blk t).view.read (Elt Ideal) X : Vec Ideal S32x32768x1 .f32) = X := by
  funext y
  refine congrArg X (funext fun x => Fin.ext ?_)
  exact (congrArg (· + _) (Nat.zero_mul _)).trans ((Nat.zero_add _).trans (Nat.one_mul _))

/-- Window 0's block. -/
theorem blk0 (c : Dev nD) (t : Fin cfg0.N) : (iblk m c 0 t : Vec Ideal S32x32768x1 .f32) = V m c main_v15 := by
  unfold iblk
  exact read0 t (V m c main_v15)

/-- Window 1 reads the whole array. -/
theorem read1 (t : Fin cfg0.N) (X : Vec Ideal S32x1x32768 .f32) : (((cfg0.win 1).blk t).view.read (Elt Ideal) X : Vec Ideal S32x1x32768 .f32) = X := by
  funext y
  refine congrArg X (funext fun x => Fin.ext ?_)
  exact (congrArg (· + _) (Nat.zero_mul _)).trans ((Nat.zero_add _).trans (Nat.one_mul _))

/-- Window 1's block. -/
theorem blk1 (c : Dev nD) (t : Fin cfg0.N) : (iblk m c 1 t : Vec Ideal S32x1x32768 .f32) = V m c main_v21 := by
  unfold iblk
  exact read1 t (V m c main_v21)

/-- Window 2 reads the whole array. -/
theorem read2 (t : Fin cfg0.N) (X : Vec Ideal S32x32768x128 .fp8e4m3) : (((cfg0.win 2).blk t).view.read (Elt Ideal) X : Vec Ideal S32x32768x128 .fp8e4m3) = X := by
  funext y
  refine congrArg X (funext fun x => Fin.ext ?_)
  exact (congrArg (· + _) (Nat.zero_mul _)).trans ((Nat.zero_add _).trans (Nat.one_mul _))

/-- Window 2's block. -/
theorem blk2 (c : Dev nD) (t : Fin cfg0.N) : (iblk m c 2 t : Vec Ideal S32x32768x128 .fp8e4m3) = V m c main_v2 := by
  unfold iblk
  exact read2 t (V m c main_v2)

/-- Window 3 reads the whole array. -/
theorem read3 (t : Fin cfg0.N) (X : Vec Ideal S32x32768x128 .fp8e4m3) : (((cfg0.win 3).blk t).view.read (Elt Ideal) X : Vec Ideal S32x32768x128 .fp8e4m3) = X := by
  funext y
  refine congrArg X (funext fun x => Fin.ext ?_)
  exact (congrArg (· + _) (Nat.zero_mul _)).trans ((Nat.zero_add _).trans (Nat.one_mul _))

/-- Window 3's block. -/
theorem blk3 (c : Dev nD) (t : Fin cfg0.N) : (iblk m c 3 t : Vec Ideal S32x32768x128 .fp8e4m3) = V m c main_v7 := by
  unfold iblk
  exact read3 t (V m c main_v7)

/-- Window 4 reads the whole array. -/
theorem read4 (t : Fin cfg0.N) (X : Vec Ideal S32x128x32768 .fp8e4m3) : (((cfg0.win 4).blk t).view.read (Elt Ideal) X : Vec Ideal S32x128x32768 .fp8e4m3) = X := by
  funext y
  refine congrArg X (funext fun x => Fin.ext ?_)
  exact (congrArg (· + _) (Nat.zero_mul _)).trans ((Nat.zero_add _).trans (Nat.one_mul _))

/-- Window 4's block. -/
theorem blk4 (c : Dev nD) (t : Fin cfg0.N) : (iblk m c 4 t : Vec Ideal S32x128x32768 .fp8e4m3) = V m c main_v11 := by
  unfold iblk
  exact read4 t (V m c main_v11)

/-- Window 5 reads the whole array. -/
theorem read5 (t : Fin cfg0.N) (X : Vec Ideal S32x1x128 .f32) : (((cfg0.win 5).blk t).view.read (Elt Ideal) X : Vec Ideal S32x1x128 .f32) = X := by
  funext y
  refine congrArg X (funext fun x => Fin.ext ?_)
  exact (congrArg (· + _) (Nat.zero_mul _)).trans ((Nat.zero_add _).trans (Nat.one_mul _))

/-- Window 5's block. -/
theorem blk5 (c : Dev nD) (t : Fin cfg0.N) : (iblk m c 5 t : Vec Ideal S32x1x128 .f32) = V m c main_v27 := by
  unfold iblk
  exact read5 t (V m c main_v27)

end Cert.Proof.ReferenceIdeal

end
-- ==== Proof.ReferenceFinal.lean ====
/-
  The array the plain attention leaves, over the extended reals: the attention of the six argument arrays.
-/
module

public import proofs.«01_k».proof.Proof.ReferenceHost
public import Idealize.ShloMosaic.Lib.Pipeline.ValueKit

@[expose] public section

set_option maxHeartbeats 1000000
set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Cert.Proof.KernelIdeal (at2 at2_mk)

variable (m : (ℓ : Loc nD τ sig) → Buf (Elt Ideal) ℓ)

/-- A rank-3 zero offset. -/
theorem zero3 : (![0, 0, 0] : Fin 3 → ℕ) = fun _ => 0 := by decide
/-- A rank-2 zero offset. -/
theorem zero2 : (![0, 0] : Fin 2 → ℕ) = fun _ => 0 := by decide

/-- The result block is the stored value of the whole input arrays. -/
theorem out_eq (x0 : Vec Ideal S32x32768x1 .f32) (x1 : Vec Ideal S32x1x32768 .f32) (x2 x3 : Vec Ideal S32x32768x128 .fp8e4m3)
    (x4 : Vec Ideal S32x128x32768 .fp8e4m3) (x5 : Vec Ideal S32x1x128 .f32) :
    out0_6 x0 x1 x2 x3 x4 x5
      = k0_pay1 (k0_pay3 x2 x3 x0 x1) (k0_pay4 x2 x3 x0 x1) (k0_pay5 x4) (constant S32x32768x128 .f32 0x00000000#32) x5 := by
  unfold out0_6
  rw [View.canon_unit_zero (S := S65536x2048) zero2, View.ld_unit_zero (S := S32x32768x128) zero3, View.ld_unit_zero (S := S32x32768x128) zero3,
    View.ld_unit_zero (S := S32x32768x1) zero3, View.ld_unit_zero (S := S32x1x32768) zero3, View.ld_unit_zero (S := S32x128x32768) zero3,
    View.ld_unit_zero (S := S32x1x128) zero3]

/-- Every output index lies in the one grid point's block. -/
theorem cov : (cfg0.win 6).Covers := by decide +kernel

/-- The logit of arrays that hold the arguments' entries. -/
theorem rowLogit_of (Q K : S32x32768x128.Idx → EReal) (QS : S32x32768x1.Idx → EReal) (KS : S32x1x32768.Idx → EReal)
    (qs : (⟨3, ![32, 1, 256]⟩ : Shape).Idx → EReal) (ks : (⟨3, ![8, 1, 512]⟩ : Shape).Idx → EReal)
    (q : (⟨2, ![65536, 2048]⟩ : Shape).Idx → EReal) (k : (⟨2, ![65536, 512]⟩ : Shape).Idx → EReal) (h : Fin 32) (i j : Fin 32768)
    (hq : ∀ d : Fin 128, Q (ix3 h i d) = at2 q (h.val / 16 * 32768 + i.val) (h.val % 16 * 128 + d.val))
    (hk : ∀ d : Fin 128, K (ix3 h j d) = at2 k (h.val / 16 * 32768 + j.val) (h.val % 16 / 4 * 128 + d.val))
    (hqs : QS (ix3 h i (0 : Fin 1)) = at3 qs (h.val / 16 * 16 + h.val % 16) 0 (i.val / 128))
    (hks : KS (ix3 h (0 : Fin 1) j) = at3 ks (h.val / 16 * 4 + h.val % 16 / 4) 0 (j.val / 64)) :
    rowLogit Q K QS KS h i j = logit qs ks q k (h.val / 16) (h.val % 16) i.val j.val := by
  unfold rowLogit logit
  simp only [hq, hk, hqs, hks]

/-- The logit of a query and a key, of the prepared arrays, is the logit of the arguments. -/
theorem rowLogit_eq (c : Dev nD) (h : Fin 32) (i j : Fin 32768) :
    rowLogit (V m c main_v2) (V m c main_v7) (V m c main_v15) (V m c main_v21) h i j
      = logit (m ((c.tc : Thread nD τ).loc main_arg0)) (m ((c.tc : Thread nD τ).loc main_arg1)) (m ((c.tc : Thread nD τ).loc main_arg2))
          (m ((c.tc : Thread nD τ).loc main_arg3)) (h.val / 16) (h.val % 16) i.val j.val := by
  have e16 : h.val / 16 * 16 + h.val % 16 = h.val := by omega
  refine rowLogit_of _ _ _ _ _ _ _ _ h i j (fun d => ?_) (fun d => ?_) ?_ ?_
  · exact (q_at m c h i d).trans (at2_mk _ _ _ _ _).symm
  · exact (k_at m c h j d).trans (at2_mk _ _ _ _ _).symm
  · rw [e16]
    exact (qs_at m c h i).trans (at3_mk _ _ _ _ h.isLt Nat.one_pos _).symm
  · exact (ks_at m c h j).trans (at3_mk _ _ _ _ _ Nat.one_pos _).symm

/-- One entry of the stored value, of arrays that hold the arguments' entries, is the attention of the arguments there. -/
theorem payload_of (Q K : Vec Ideal S32x32768x128 .fp8e4m3) (QS : Vec Ideal S32x32768x1 .f32) (KS : Vec Ideal S32x1x32768 .f32)
    (VT : Vec Ideal S32x128x32768 .fp8e4m3) (VS : Vec Ideal S32x1x128 .f32)
    (qs : (⟨3, ![32, 1, 256]⟩ : Shape).Idx → EReal) (ks : (⟨3, ![8, 1, 512]⟩ : Shape).Idx → EReal)
    (q : (⟨2, ![65536, 2048]⟩ : Shape).Idx → EReal) (k : (⟨2, ![65536, 512]⟩ : Shape).Idx → EReal)
    (vt : (⟨2, ![1024, 32768]⟩ : Shape).Idx → EReal) (vs : (⟨3, ![2, 8, 512]⟩ : Shape).Idx → EReal)
    (hx : ∀ (h : Fin 32) (i j : Fin 32768), rowLogit Q K QS KS h i j = logit qs ks q k (h.val / 16) (h.val % 16) i.val j.val)
    (hv : ∀ (h : Fin 32) (d : Fin 128) (j : Fin 32768), VT (ix3 h d j) = at2 vt ((h.val / 16 * 4 + h.val % 16 / 4) * 128 + d.val) j.val)
    (hs : ∀ (h : Fin 32) (d : Fin 128), VS (ix3 h (0 : Fin 1) d) = at3 vs (h.val / 16) 0 (h.val % 16 / 4 * 128 + d.val))
    (y0 : Fin 65536) (y1 : Fin 2048) :
    k0_pay1 (F := Ideal) (k0_pay3 Q K QS KS) (k0_pay4 Q K QS KS) (k0_pay5 VT) (constant S32x32768x128 .f32 0x00000000#32) VS (ix2 y0 y1)
      = attention qs ks q k vt vs (ix2 y0 y1) := by
  have h0 := y0.isLt
  have h1 := y1.isLt
  obtain ⟨h, hh⟩ : ∃ h : Fin 32, h.val = y0.val / 32768 * 16 + y1.val / 128 := ⟨⟨_, by omega⟩, rfl⟩
  obtain ⟨i, hi⟩ : ∃ i : Fin 32768, i.val = y0.val % 32768 := ⟨⟨_, by omega⟩, rfl⟩
  obtain ⟨d, hd⟩ : ∃ d : Fin 128, d.val = y1.val % 128 := ⟨⟨_, by omega⟩, rfl⟩
  rw [row_apply Q K QS KS VT VS y0 y1 h i d hh hi hd _ _ (hx h i) (hv h d), hs,
    attention_of qs ks q k vt vs (e := ix2 y0 y1) (b := h.val / 16) (hd := h.val % 16) (row := i.val) (d := d.val)
      (by show y0.val / 32768 = _; omega) (by show y1.val / 128 = _; omega) (by show y0.val % 32768 = _; omega) (by show y1.val % 128 = _; omega)]
  rfl

/-- One entry of the stored value is the attention of the arguments there. -/
theorem payload_eq (c : Dev nD) (y : S65536x2048.Idx) :
    k0_pay1 (F := Ideal) (k0_pay3 (V m c main_v2) (V m c main_v7) (V m c main_v15) (V m c main_v21))
        (k0_pay4 (V m c main_v2) (V m c main_v7) (V m c main_v15) (V m c main_v21)) (k0_pay5 (V m c main_v11))
        (constant S32x32768x128 .f32 0x00000000#32) (V m c main_v27) y
      = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) y := by
  idx_vars y
  exact payload_of _ _ _ _ _ _ _ _ _ _ _ _ (rowLogit_eq m c) (fun h d j => (vt_at m c h d j).trans (at2_mk _ _ _ _ _).symm)
    (fun h d => (vs_at m c h d).trans (at3_mk _ _ _ _ _ (by decide) _).symm) y0 y1

/-- What the run leaves in the output array is the attention of the argument arrays. -/
theorem final_out (c : Dev nD) :
    (dats m 0 c).arrAt 6 cfg0.N = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ cov fun t hf y => ?_
  rw [after0_6, blk0, blk1, blk2, blk3, blk4, blk5, out_eq]
  have ey : (((cfg0.win 6).blk t).view.emb y) = y :=
    funext fun x => Fin.ext ((congrArg (· + _) (Nat.zero_mul _)).trans ((Nat.zero_add _).trans (Nat.one_mul _)))
  refine Eq.trans ?_ (congrArg _ ey.symm)
  exact (cast_eq _ _).trans (payload_eq m c y)

end Cert.Proof.ReferenceIdeal

end
-- ==== Proof.lean ====
/-
  The proof of `Cert.Claim` (proofs.«01_k».proof.Defs).
-/
module

public import proofs.«01_k».proof.Defs
public import proofs.«01_k».proof.Proof.FrameKernel
public import proofs.«01_k».proof.Proof.KernelFinal
public import proofs.«01_k».proof.Proof.ReferenceFinal
public import Idealize.ShloMosaic.Adequacy
public import Idealize.ShloMosaic.Init

@[expose] public section

noncomputable section

namespace Cert.Proof

open Idealize.ShloMosaic Idealize.ShloMosaic.TcCoe Idealize.SL.Sem

/-- The two named constants are the printed ones, rounded. -/
theorem preserves : Cert.preserves_Kernel_KernelIdeal :=
  ⟨IdealRules.named_const.statement Cert.KernelIdeal.κ "scale" .f32 0x3E0293EE#32 (((Real.log 2)⁻¹ * (Real.sqrt 128)⁻¹ : ℝ) : EReal) rfl,
   IdealRules.named_const.statement Cert.KernelIdeal.κ "log2_max" .f32 0x410CEAED#32 (((Real.log 448) * (Real.log 2)⁻¹ : ℝ) : EReal) rfl⟩

/-- Over the extended reals the kernel and the plain attention leave the same array: each the attention of its arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.Proof.KernelIdeal.dats m 0 c).arrAt 6 Cert.KernelIdeal.cfg0.N,
    (θ_run Cert.KernelIdeal.defs _ _).mono (fun r h => h.1) (Cert.Proof.KernelIdeal.run_all m g),
    (θ_run Cert.ReferenceIdeal.defs _ _).mono (fun r h c => ⟨(h c).1.trans ?_, (h c).2⟩) (Cert.ReferenceIdeal.Value.run_blocks m' g')⟩
  obtain ⟨h0, h1, h2, h3, h4, h5⟩ := hargs c
  rw [Cert.Proof.ReferenceIdeal.final_out m' c]
  refine Eq.trans ?_ (Cert.Proof.KernelIdeal.final_out m c).symm
  rw [h0, h1, h2, h3, h4, h5]

/-- `Cert.Claim`: the three frames, that the idealized program is the printed one's idealization, and that it computes the
    plain attention over the extended reals. -/
theorem claim : Cert.Claim :=
  ⟨Cert.Kernel.Gen.facts, Cert.KernelIdeal.Gen.facts, Cert.ReferenceIdeal.Gen.facts,
   fun m g _ => Cert.Proof.Kernel.frame_all (F := Bits) m g,
   fun m g _ => (θ_run Cert.KernelIdeal.defs _ _).mono (fun r h => ⟨fun c => (h.1 c).2, h.2⟩) (Cert.Proof.KernelIdeal.run_all m g),
   fun m g _ => Cert.ReferenceIdeal.Gen.frame m g,
   preserves, algebraic⟩

end Cert.Proof

end
